-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10)
      ∧ r.2.mem ((c.tc : Thread Cert.Kernel8.nD Cert.Kernel8.τ).loc Cert.Kernel8.main_arg11) = m ((c.tc : Thread Cert.Kernel8.nD Cert.Kernel8.τ).loc Cert.Kernel8.main_arg11)
      ∧ r.2.mem ((c.tc : Thread Cert.Kernel8.nD Cert.Kernel8.τ).loc Cert.Kernel8.main_arg12) = m ((c.tc : Thread Cert.Kernel8.nD Cert.Kernel8.τ).loc Cert.Kernel8.main_arg12)
      ∧ r.2.mem ((c.tc : Thread Cert.Kernel8.nD Cert.Kernel8.τ).loc Cert.Kernel8.main_arg13) = m ((c.tc : Thread Cert.Kernel8.nD Cert.Kernel8.τ).loc Cert.Kernel8.main_arg13)
      ∧ r.2.mem ((c.tc : Thread Cert.Kernel8.nD Cert.Kernel8.τ).loc Cert.Kernel8.main_arg14) = m ((c.tc : Thread Cert.Kernel8.nD Cert.Kernel8.τ).loc Cert.Kernel8.main_arg14)
      ∧ r.2.mem ((c.tc : Thread Cert.Kernel8.nD Cert.Kernel8.τ).loc Cert.Kernel8.main_arg15) = m ((c.tc : Thread Cert.Kernel8.nD Cert.Kernel8.τ).loc Cert.Kernel8.main_arg15))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
      ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
      ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13)
      ∧ r.2.mem ((c.tc : Thread Cert.Kernel8Ideal.nD Cert.Kernel8Ideal.τ).loc Cert.Kernel8Ideal.main_arg14) = m ((c.tc : Thread Cert.Kernel8Ideal.nD Cert.Kernel8Ideal.τ).loc Cert.Kernel8Ideal.main_arg14)
      ∧ r.2.mem ((c.tc : Thread Cert.Kernel8Ideal.nD Cert.Kernel8Ideal.τ).loc Cert.Kernel8Ideal.main_arg15) = m ((c.tc : Thread Cert.Kernel8Ideal.nD Cert.Kernel8Ideal.τ).loc Cert.Kernel8Ideal.main_arg15))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11)
      ∧ r.2.mem ((c.tc : Thread Cert.Reference8Ideal.nD Cert.Reference8Ideal.τ).loc Cert.Reference8Ideal.main_arg12) = m ((c.tc : Thread Cert.Reference8Ideal.nD Cert.Reference8Ideal.τ).loc Cert.Reference8Ideal.main_arg12)
      ∧ r.2.mem ((c.tc : Thread Cert.Reference8Ideal.nD Cert.Reference8Ideal.τ).loc Cert.Reference8Ideal.main_arg13) = m ((c.tc : Thread Cert.Reference8Ideal.nD Cert.Reference8Ideal.τ).loc Cert.Reference8Ideal.main_arg13)
      ∧ r.2.mem ((c.tc : Thread Cert.Reference8Ideal.nD Cert.Reference8Ideal.τ).loc Cert.Reference8Ideal.main_arg14) = m ((c.tc : Thread Cert.Reference8Ideal.nD Cert.Reference8Ideal.τ).loc Cert.Reference8Ideal.main_arg14)
      ∧ r.2.mem ((c.tc : Thread Cert.Reference8Ideal.nD Cert.Reference8Ideal.τ).loc Cert.Reference8Ideal.main_arg15) = m ((c.tc : Thread Cert.Reference8Ideal.nD Cert.Reference8Ideal.τ).loc Cert.Reference8Ideal.main_arg15))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)) (v2 : (c : Dev Cert.KernelIdeal.nD) → Buf (Elt Ideal) ((c.tc : Thread Cert.KernelIdeal.nD Cert.KernelIdeal.τ).loc Cert.KernelIdeal.main_v17_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_v17_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v10_0)) (v1 : (c : Dev Cert.Kernel2Ideal.nD) → Buf (Elt Ideal) ((c.tc : Thread Cert.Kernel2Ideal.nD Cert.Kernel2Ideal.τ).loc Cert.Kernel2Ideal.main_v10_1)) (v2 : (c : Dev Cert.Kernel2Ideal.nD) → Buf (Elt Ideal) ((c.tc : Thread Cert.Kernel2Ideal.nD Cert.Kernel2Ideal.τ).loc Cert.Kernel2Ideal.main_v10_2)) (v3 : (c : Dev Cert.Kernel2Ideal.nD) → Buf (Elt Ideal) ((c.tc : Thread Cert.Kernel2Ideal.nD Cert.Kernel2Ideal.τ).loc Cert.Kernel2Ideal.main_v10_3)) (v4 : (c : Dev Cert.Kernel2Ideal.nD) → Buf (Elt Ideal) ((c.tc : Thread Cert.Kernel2Ideal.nD Cert.Kernel2Ideal.τ).loc Cert.Kernel2Ideal.main_v10_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10_0) = v0 c
          ∧ r.2.mem ((c.tc : Thread Cert.Kernel2Ideal.nD Cert.Kernel2Ideal.τ).loc Cert.Kernel2Ideal.main_v10_1) = v1 c
          ∧ r.2.mem ((c.tc : Thread Cert.Kernel2Ideal.nD Cert.Kernel2Ideal.τ).loc Cert.Kernel2Ideal.main_v10_2) = v2 c
          ∧ r.2.mem ((c.tc : Thread Cert.Kernel2Ideal.nD Cert.Kernel2Ideal.τ).loc Cert.Kernel2Ideal.main_v10_3) = v3 c
          ∧ r.2.mem ((c.tc : Thread Cert.Kernel2Ideal.nD Cert.Kernel2Ideal.τ).loc Cert.Kernel2Ideal.main_v10_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v46) = v0 c
          ∧ r.2.mem ((c.tc : Thread Cert.Reference2Ideal.nD Cert.Reference2Ideal.τ).loc Cert.Reference2Ideal.main_v53) = v1 c
          ∧ r.2.mem ((c.tc : Thread Cert.Reference2Ideal.nD Cert.Reference2Ideal.τ).loc Cert.Reference2Ideal.main_v54) = v2 c
          ∧ r.2.mem ((c.tc : Thread Cert.Reference2Ideal.nD Cert.Reference2Ideal.τ).loc Cert.Reference2Ideal.main_v55) = v3 c
          ∧ r.2.mem ((c.tc : Thread Cert.Reference2Ideal.nD Cert.Reference2Ideal.τ).loc Cert.Reference2Ideal.main_v51) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v7_0)) (v1 : (c : Dev Cert.Kernel5Ideal.nD) → Buf (Elt Ideal) ((c.tc : Thread Cert.Kernel5Ideal.nD Cert.Kernel5Ideal.τ).loc Cert.Kernel5Ideal.main_v7_1)) (v2 : (c : Dev Cert.Kernel5Ideal.nD) → Buf (Elt Ideal) ((c.tc : Thread Cert.Kernel5Ideal.nD Cert.Kernel5Ideal.τ).loc Cert.Kernel5Ideal.main_v7_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7_0) = v0 c
          ∧ r.2.mem ((c.tc : Thread Cert.Kernel5Ideal.nD Cert.Kernel5Ideal.τ).loc Cert.Kernel5Ideal.main_v7_1) = v1 c
          ∧ r.2.mem ((c.tc : Thread Cert.Kernel5Ideal.nD Cert.Kernel5Ideal.τ).loc Cert.Kernel5Ideal.main_v7_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_v18) = v1 c
          ∧ r.2.mem ((c.tc : Thread Cert.Reference5Ideal.nD Cert.Reference5Ideal.τ).loc Cert.Reference5Ideal.main_v19) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_v21) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v10_0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v10_0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)
      ∧ m' ((c.tc : Thread Cert.Reference8Ideal.nD Cert.Reference8Ideal.τ).loc Cert.Reference8Ideal.main_arg11) = m ((c.tc : Thread Cert.Kernel8Ideal.nD Cert.Kernel8Ideal.τ).loc Cert.Kernel8Ideal.main_arg11)
      ∧ m' ((c.tc : Thread Cert.Reference8Ideal.nD Cert.Reference8Ideal.τ).loc Cert.Reference8Ideal.main_arg12) = m ((c.tc : Thread Cert.Kernel8Ideal.nD Cert.Kernel8Ideal.τ).loc Cert.Kernel8Ideal.main_arg12)
      ∧ m' ((c.tc : Thread Cert.Reference8Ideal.nD Cert.Reference8Ideal.τ).loc Cert.Reference8Ideal.main_arg13) = m ((c.tc : Thread Cert.Kernel8Ideal.nD Cert.Kernel8Ideal.τ).loc Cert.Kernel8Ideal.main_arg13)
      ∧ m' ((c.tc : Thread Cert.Reference8Ideal.nD Cert.Reference8Ideal.τ).loc Cert.Reference8Ideal.main_arg14) = m ((c.tc : Thread Cert.Kernel8Ideal.nD Cert.Kernel8Ideal.τ).loc Cert.Kernel8Ideal.main_arg14)
      ∧ m' ((c.tc : Thread Cert.Reference8Ideal.nD Cert.Reference8Ideal.τ).loc Cert.Reference8Ideal.main_arg15) = m ((c.tc : Thread Cert.Kernel8Ideal.nD Cert.Kernel8Ideal.τ).loc Cert.Kernel8Ideal.main_arg15)) →
    ∃ (v0 : (c : Dev Cert.Kernel8Ideal.nD) → Buf (Elt Ideal) ((c.tc : Thread Cert.Kernel8Ideal.nD Cert.Kernel8Ideal.τ).loc Cert.Kernel8Ideal.main_v7)) (v1 : (c : Dev Cert.Kernel8Ideal.nD) → Buf (Elt Ideal) ((c.tc : Thread Cert.Kernel8Ideal.nD Cert.Kernel8Ideal.τ).loc Cert.Kernel8Ideal.main_v8)) (v2 : (c : Dev Cert.Kernel8Ideal.nD) → Buf (Elt Ideal) ((c.tc : Thread Cert.Kernel8Ideal.nD Cert.Kernel8Ideal.τ).loc Cert.Kernel8Ideal.main_v9)) (v3 : (c : Dev Cert.Kernel8Ideal.nD) → Buf (Elt Ideal) ((c.tc : Thread Cert.Kernel8Ideal.nD Cert.Kernel8Ideal.τ).loc Cert.Kernel8Ideal.main_v6_3)) (v4 : (c : Dev Cert.Kernel8Ideal.nD) → Buf (Elt Ideal) ((c.tc : Thread Cert.Kernel8Ideal.nD Cert.Kernel8Ideal.τ).loc Cert.Kernel8Ideal.main_v6_4)) (v5 : (c : Dev Cert.Kernel8Ideal.nD) → Buf (Elt Ideal) ((c.tc : Thread Cert.Kernel8Ideal.nD Cert.Kernel8Ideal.τ).loc Cert.Kernel8Ideal.main_v6_5)) (v6 : (c : Dev Cert.Kernel8Ideal.nD) → Buf (Elt Ideal) ((c.tc : Thread Cert.Kernel8Ideal.nD Cert.Kernel8Ideal.τ).loc Cert.Kernel8Ideal.main_v10)) (v7 : (c : Dev Cert.Kernel8Ideal.nD) → Buf (Elt Ideal) ((c.tc : Thread Cert.Kernel8Ideal.nD Cert.Kernel8Ideal.τ).loc Cert.Kernel8Ideal.main_v11)) (v8 : (c : Dev Cert.Kernel8Ideal.nD) → Buf (Elt Ideal) ((c.tc : Thread Cert.Kernel8Ideal.nD Cert.Kernel8Ideal.τ).loc Cert.Kernel8Ideal.main_v12)) (v9 : (c : Dev Cert.Kernel8Ideal.nD) → Buf (Elt Ideal) ((c.tc : Thread Cert.Kernel8Ideal.nD Cert.Kernel8Ideal.τ).loc Cert.Kernel8Ideal.main_v6_9)) (v10 : (c : Dev Cert.Kernel8Ideal.nD) → Buf (Elt Ideal) ((c.tc : Thread Cert.Kernel8Ideal.nD Cert.Kernel8Ideal.τ).loc Cert.Kernel8Ideal.main_v6_10)) (v11 : (c : Dev Cert.Kernel8Ideal.nD) → Buf (Elt Ideal) ((c.tc : Thread Cert.Kernel8Ideal.nD Cert.Kernel8Ideal.τ).loc Cert.Kernel8Ideal.main_v6_11)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v7) = v0 c
          ∧ r.2.mem ((c.tc : Thread Cert.Kernel8Ideal.nD Cert.Kernel8Ideal.τ).loc Cert.Kernel8Ideal.main_v8) = v1 c
          ∧ r.2.mem ((c.tc : Thread Cert.Kernel8Ideal.nD Cert.Kernel8Ideal.τ).loc Cert.Kernel8Ideal.main_v9) = v2 c
          ∧ r.2.mem ((c.tc : Thread Cert.Kernel8Ideal.nD Cert.Kernel8Ideal.τ).loc Cert.Kernel8Ideal.main_v6_3) = v3 c
          ∧ r.2.mem ((c.tc : Thread Cert.Kernel8Ideal.nD Cert.Kernel8Ideal.τ).loc Cert.Kernel8Ideal.main_v6_4) = v4 c
          ∧ r.2.mem ((c.tc : Thread Cert.Kernel8Ideal.nD Cert.Kernel8Ideal.τ).loc Cert.Kernel8Ideal.main_v6_5) = v5 c
          ∧ r.2.mem ((c.tc : Thread Cert.Kernel8Ideal.nD Cert.Kernel8Ideal.τ).loc Cert.Kernel8Ideal.main_v10) = v6 c
          ∧ r.2.mem ((c.tc : Thread Cert.Kernel8Ideal.nD Cert.Kernel8Ideal.τ).loc Cert.Kernel8Ideal.main_v11) = v7 c
          ∧ r.2.mem ((c.tc : Thread Cert.Kernel8Ideal.nD Cert.Kernel8Ideal.τ).loc Cert.Kernel8Ideal.main_v12) = v8 c
          ∧ r.2.mem ((c.tc : Thread Cert.Kernel8Ideal.nD Cert.Kernel8Ideal.τ).loc Cert.Kernel8Ideal.main_v6_9) = v9 c
          ∧ r.2.mem ((c.tc : Thread Cert.Kernel8Ideal.nD Cert.Kernel8Ideal.τ).loc Cert.Kernel8Ideal.main_v6_10) = v10 c
          ∧ r.2.mem ((c.tc : Thread Cert.Kernel8Ideal.nD Cert.Kernel8Ideal.τ).loc Cert.Kernel8Ideal.main_v6_11) = v11 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
          ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
          ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
          ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13)
          ∧ r.2.mem ((c.tc : Thread Cert.Kernel8Ideal.nD Cert.Kernel8Ideal.τ).loc Cert.Kernel8Ideal.main_arg14) = m ((c.tc : Thread Cert.Kernel8Ideal.nD Cert.Kernel8Ideal.τ).loc Cert.Kernel8Ideal.main_arg14)
          ∧ r.2.mem ((c.tc : Thread Cert.Kernel8Ideal.nD Cert.Kernel8Ideal.τ).loc Cert.Kernel8Ideal.main_arg15) = m ((c.tc : Thread Cert.Kernel8Ideal.nD Cert.Kernel8Ideal.τ).loc Cert.Kernel8Ideal.main_arg15))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v24) = v0 c
          ∧ r.2.mem ((c.tc : Thread Cert.Reference8Ideal.nD Cert.Reference8Ideal.τ).loc Cert.Reference8Ideal.main_v5) = v1 c
          ∧ r.2.mem ((c.tc : Thread Cert.Reference8Ideal.nD Cert.Reference8Ideal.τ).loc Cert.Reference8Ideal.main_v11) = v2 c
          ∧ r.2.mem ((c.tc : Thread Cert.Reference8Ideal.nD Cert.Reference8Ideal.τ).loc Cert.Reference8Ideal.main_v48) = v3 c
          ∧ r.2.mem ((c.tc : Thread Cert.Reference8Ideal.nD Cert.Reference8Ideal.τ).loc Cert.Reference8Ideal.main_v29) = v4 c
          ∧ r.2.mem ((c.tc : Thread Cert.Reference8Ideal.nD Cert.Reference8Ideal.τ).loc Cert.Reference8Ideal.main_v35) = v5 c
          ∧ r.2.mem ((c.tc : Thread Cert.Reference8Ideal.nD Cert.Reference8Ideal.τ).loc Cert.Reference8Ideal.main_v73) = v6 c
          ∧ r.2.mem ((c.tc : Thread Cert.Reference8Ideal.nD Cert.Reference8Ideal.τ).loc Cert.Reference8Ideal.main_v54) = v7 c
          ∧ r.2.mem ((c.tc : Thread Cert.Reference8Ideal.nD Cert.Reference8Ideal.τ).loc Cert.Reference8Ideal.main_v60) = v8 c
          ∧ r.2.mem ((c.tc : Thread Cert.Reference8Ideal.nD Cert.Reference8Ideal.τ).loc Cert.Reference8Ideal.main_v97) = v9 c
          ∧ r.2.mem ((c.tc : Thread Cert.Reference8Ideal.nD Cert.Reference8Ideal.τ).loc Cert.Reference8Ideal.main_v78) = v10 c
          ∧ r.2.mem ((c.tc : Thread Cert.Reference8Ideal.nD Cert.Reference8Ideal.τ).loc Cert.Reference8Ideal.main_v84) = v11 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10)
          ∧ r.2.mem ((c.tc : Thread Cert.Reference8Ideal.nD Cert.Reference8Ideal.τ).loc Cert.Reference8Ideal.main_arg11) = m' ((c.tc : Thread Cert.Reference8Ideal.nD Cert.Reference8Ideal.τ).loc Cert.Reference8Ideal.main_arg11)
          ∧ r.2.mem ((c.tc : Thread Cert.Reference8Ideal.nD Cert.Reference8Ideal.τ).loc Cert.Reference8Ideal.main_arg12) = m' ((c.tc : Thread Cert.Reference8Ideal.nD Cert.Reference8Ideal.τ).loc Cert.Reference8Ideal.main_arg12)
          ∧ r.2.mem ((c.tc : Thread Cert.Reference8Ideal.nD Cert.Reference8Ideal.τ).loc Cert.Reference8Ideal.main_arg13) = m' ((c.tc : Thread Cert.Reference8Ideal.nD Cert.Reference8Ideal.τ).loc Cert.Reference8Ideal.main_arg13)
          ∧ r.2.mem ((c.tc : Thread Cert.Reference8Ideal.nD Cert.Reference8Ideal.τ).loc Cert.Reference8Ideal.main_arg14) = m' ((c.tc : Thread Cert.Reference8Ideal.nD Cert.Reference8Ideal.τ).loc Cert.Reference8Ideal.main_arg14)
          ∧ r.2.mem ((c.tc : Thread Cert.Reference8Ideal.nD Cert.Reference8Ideal.τ).loc Cert.Reference8Ideal.main_arg15) = m' ((c.tc : Thread Cert.Reference8Ideal.nD Cert.Reference8Ideal.τ).loc Cert.Reference8Ideal.main_arg15))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Kernel.lean ====
abbrev S8192x1024 : Shape := ⟨2, ![8192, 1024]⟩
abbrev S1024 : Shape := ⟨1, ![1024]⟩
abbrev S1024x1792 : Shape := ⟨2, ![1024, 1792]⟩
abbrev S8192x768 : Shape := ⟨2, ![8192, 768]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1792x1024 : Shape := ⟨2, ![1792, 1024]⟩
abbrev S512x768 : Shape := ⟨2, ![512, 768]⟩
abbrev S512x1024 : Shape := ⟨2, ![512, 1024]⟩
abbrev S768x1024 : Shape := ⟨2, ![768, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 29
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1792, .f32⟩
  | .hbm, ⟨3, _⟩ => ⟨S8192x768, .bf16⟩
  | .hbm, ⟨4, _⟩ => ⟨S8192x1024, .bf16⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | .hbm, ⟨23, _⟩ => ⟨S1792x1024, .f32⟩
  | .hbm, ⟨24, _⟩ => ⟨S1792x1024, .bf16⟩
  | .hbm, ⟨25, _⟩ => ⟨S1x1024, .f32⟩
  | .hbm, ⟨26, _⟩ => ⟨S8192x1024, .f32⟩
  | .hbm, ⟨27, _⟩ => ⟨S1x1024, .f32⟩
  | .hbm, ⟨28, _⟩ => ⟨S1792x1024, .f32⟩
  | .local _ .vmem, ⟨0, _⟩ => ⟨S512x768, .bf16⟩
  | .local _ .vmem, ⟨1, _⟩ => ⟨S512x768, .bf16⟩
  | .local _ .vmem, ⟨2, _⟩ => ⟨S512x1024, .bf16⟩
  | .local _ .vmem, ⟨3, _⟩ => ⟨S512x1024, .bf16⟩
  | .local _ .vmem, ⟨4, _⟩ => ⟨S1792x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S1792x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev main_v17_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1792x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1792x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S8192x1024 : Shape := ⟨2, ![8192, 1024]⟩
abbrev S1024 : Shape := ⟨1, ![1024]⟩
abbrev S1024x1792 : Shape := ⟨2, ![1024, 1792]⟩
abbrev S8192x768 : Shape := ⟨2, ![8192, 768]⟩
abbrev S8192x1792 : Shape := ⟨2, ![8192, 1792]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1792x1024 : Shape := ⟨2, ![1792, 1024]⟩

abbrev nBuf : Space → Nat
  | .hbm => 61
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1792, .f32⟩
  | .hbm, ⟨3, _⟩ => ⟨S8192x768, .bf16⟩
  | .hbm, ⟨4, _⟩ => ⟨S8192x1024, .bf16⟩
  | .hbm, ⟨5, _⟩ => ⟨S8192x1024, .f32⟩
  | .hbm, ⟨6, _⟩ => ⟨S8192x768, .f32⟩
  | .hbm, ⟨7, _⟩ => ⟨S8192x1024, .f32⟩
  | .hbm, ⟨8, _⟩ => ⟨S8192x1792, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1792, .f32⟩
  | .hbm, ⟨30, _⟩ => ⟨S1792x1024, .f32⟩
  | .hbm, ⟨31, _⟩ => ⟨S1024x1792, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S1x1024, .f32⟩
  | .hbm, ⟨60, _⟩ => ⟨S1792x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== Kernel2.lean ====
abbrev S8192x1024 : Shape := ⟨2, ![8192, 1024]⟩
abbrev S8192x512 : Shape := ⟨2, ![8192, 512]⟩
abbrev S1024x1024 : Shape := ⟨2, ![1024, 1024]⟩
abbrev S1024 : Shape := ⟨1, ![1024]⟩
abbrev S1x1024 : Shape := ⟨2, ![1, 1024]⟩
abbrev S1024x512 : Shape := ⟨2, ![1024, 512]⟩
abbrev S1024x1 : Shape := ⟨2, ![1024, 1]⟩
abbrev S512x1024 : Shape := ⟨2, ![512, 1024]⟩

abbrev nBuf : Space → Nat
  | .hbm => 23
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S8192x1024, .bf16⟩
  | .hbm, ⟨7, _⟩ => ⟨S8192x1024, .f32⟩
  | .hbm, ⟨8, _⟩ => ⟨S8192x512, .f32⟩
  | .hbm, ⟨9, _⟩ => ⟨S8192x512, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S1x1024, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S1024x1024, .bf16⟩
  | .hbm, ⟨18, _⟩ => ⟨S8192x1024, .f32⟩
  | .hbm, ⟨19, _⟩ => ⟨S8192x1024, .bf16⟩
  | .hbm, ⟨20, _⟩ => ⟨S1x1024, .f32⟩
  | .hbm, ⟨21, _⟩ => ⟨S1x1024, .f32⟩
  | .hbm, ⟨22, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x1024, .bf16⟩
  | .local _ .vmem, ⟨16, _⟩ => ⟨S1x1024, .f32⟩
  | .local _ .vmem, ⟨17, _⟩ => ⟨S1x1024, .f32⟩
  | .local _ .vmem, ⟨18, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev main_v10_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference2Ideal.lean ====
abbrev S8192x1024 : Shape := ⟨2, ![8192, 1024]⟩
abbrev S8192x512 : Shape := ⟨2, ![8192, 512]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 75
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S8192x1024, .bf16⟩
  | .hbm, ⟨7, _⟩ => ⟨S8192x1024, .f32⟩
  | .hbm, ⟨8, _⟩ => ⟨S8192x512, .f32⟩
  | .hbm, ⟨9, _⟩ => ⟨S8192x512, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S1x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S1024, .f32⟩
  | .hbm, ⟨45, _⟩ => ⟨S8192x1024, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S_, .f32⟩
  | .hbm, ⟨57, _⟩ => ⟨S8192, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S_, .f32⟩
  | .hbm, ⟨68, _⟩ => ⟨S1024, .f32⟩
  | .hbm, ⟨69, _⟩ => ⟨S1024x1024, .f32⟩
  | .hbm, ⟨70, _⟩ => ⟨S1024x1024, .f32⟩
  | .hbm, ⟨71, _⟩ => ⟨S8192x1024, .f32⟩
  | .hbm, ⟨72, _⟩ => ⟨S8192x1024, .bf16⟩
  | .hbm, ⟨73, _⟩ => ⟨S1x1024, .f32⟩
  | .hbm, ⟨74, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_8 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩

abbrev nD : Nat := 1
abbrev τ : Topo := Topo.v7x

variable {F : FTy → Type} [FloatOps F]
-- ==== Kernel3.lean ====
abbrev S8192x1024 : Shape := ⟨2, ![8192, 1024]⟩
abbrev S8192x5632 : Shape := ⟨2, ![8192, 5632]⟩
abbrev S8192x8x704 : Shape := ⟨3, ![8192, 8, 704]⟩
abbrev S8x8192x704 : Shape := ⟨3, ![8, 8192, 704]⟩
abbrev S1x8192x1024 : Shape := ⟨3, ![1, 8192, 1024]⟩
abbrev S8x704x1024 : Shape := ⟨3, ![8, 704, 1024]⟩
abbrev S1x4096x704 : Shape := ⟨3, ![1, 4096, 704]⟩
abbrev S1x4096x1024 : Shape := ⟨3, ![1, 4096, 1024]⟩
abbrev S1x704x1024 : Shape := ⟨3, ![1, 704, 1024]⟩
abbrev S704x1024 : Shape := ⟨2, ![704, 1024]⟩
abbrev S4096x704 : Shape := ⟨2, ![4096, 704]⟩
abbrev S4096x1024 : Shape := ⟨2, ![4096, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S8192x8x704, .bf16⟩
  | .hbm, ⟨3, _⟩ => ⟨S8x8192x704, .bf16⟩
  | .hbm, ⟨4, _⟩ => ⟨S1x8192x1024, .bf16⟩
  | .hbm, ⟨5, _⟩ => ⟨S8x704x1024, .f32⟩
  | .local _ .vmem, ⟨0, _⟩ => ⟨S1x4096x704, .bf16⟩
  | .local _ .vmem, ⟨1, _⟩ => ⟨S1x4096x704, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x704x1024, .f32⟩
  | .local _ .vmem, ⟨5, _⟩ => ⟨S1x704x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S8x704x1024 : Shape := ⟨3, ![8, 704, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S_, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S5632x1024, .f32⟩
  | .hbm, ⟨10, _⟩ => ⟨S8x704x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S8192x2816 : Shape := ⟨2, ![8192, 2816]⟩
abbrev S8192x1024 : Shape := ⟨2, ![8192, 1024]⟩
abbrev S8192x4x704 : Shape := ⟨3, ![8192, 4, 704]⟩
abbrev S4x8192x704 : Shape := ⟨3, ![4, 8192, 704]⟩
abbrev S1x8192x1024 : Shape := ⟨3, ![1, 8192, 1024]⟩
abbrev S4x704x1024 : Shape := ⟨3, ![4, 704, 1024]⟩
abbrev S1x4096x704 : Shape := ⟨3, ![1, 4096, 704]⟩
abbrev S1x4096x1024 : Shape := ⟨3, ![1, 4096, 1024]⟩
abbrev S1x704x1024 : Shape := ⟨3, ![1, 704, 1024]⟩
abbrev S704x1024 : Shape := ⟨2, ![704, 1024]⟩
abbrev S4096x704 : Shape := ⟨2, ![4096, 704]⟩
abbrev S4096x1024 : Shape := ⟨2, ![4096, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x4x704, .bf16⟩
  | .hbm, ⟨3, _⟩ => ⟨S4x8192x704, .bf16⟩
  | .hbm, ⟨4, _⟩ => ⟨S1x8192x1024, .bf16⟩
  | .hbm, ⟨5, _⟩ => ⟨S4x704x1024, .f32⟩
  | .local _ .vmem, ⟨0, _⟩ => ⟨S1x4096x704, .bf16⟩
  | .local _ .vmem, ⟨1, _⟩ => ⟨S1x4096x704, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x704x1024, .f32⟩
  | .local _ .vmem, ⟨5, _⟩ => ⟨S1x704x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S4x704x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S8192x1024 : Shape := ⟨2, ![8192, 1024]⟩
abbrev S1024 : Shape := ⟨1, ![1024]⟩
abbrev S1024x1792 : Shape := ⟨2, ![1024, 1792]⟩
abbrev S1792 : Shape := ⟨1, ![1792]⟩
abbrev S1x1024 : Shape := ⟨2, ![1, 1024]⟩
abbrev S1792x1024 : Shape := ⟨2, ![1792, 1024]⟩
abbrev S768 : Shape := ⟨1, ![768]⟩
abbrev S1x768 : Shape := ⟨2, ![1, 768]⟩
abbrev S8192x768 : Shape := ⟨2, ![8192, 768]⟩
abbrev S1024x1024 : Shape := ⟨2, ![1024, 1024]⟩
abbrev S1024x768 : Shape := ⟨2, ![1024, 768]⟩
abbrev S1024x1 : Shape := ⟨2, ![1024, 1]⟩
abbrev S768x1024 : Shape := ⟨2, ![768, 1024]⟩

abbrev nBuf : Space → Nat
  | .hbm => 14
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1792, .f32⟩
  | .hbm, ⟨3, _⟩ => ⟨S1792, .f32⟩
  | .hbm, ⟨4, _⟩ => ⟨S1x1024, .f32⟩
  | .hbm, ⟨5, _⟩ => ⟨S1792x1024, .f32⟩
  | .hbm, ⟨6, _⟩ => ⟨S1792x1024, .bf16⟩
  | .hbm, ⟨7, _⟩ => ⟨S768, .f32⟩
  | .hbm, ⟨8, _⟩ => ⟨S1x768, .f32⟩
  | .hbm, ⟨9, _⟩ => ⟨S1024, .f32⟩
  | .hbm, ⟨10, _⟩ => ⟨S1x1024, .f32⟩
  | .hbm, ⟨11, _⟩ => ⟨S8192x768, .f32⟩
  | .hbm, ⟨12, _⟩ => ⟨S8192x1024, .f32⟩
  | .hbm, ⟨13, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1792x1024, .bf16⟩
  | .local _ .vmem, ⟨4, _⟩ => ⟨S1x768, .f32⟩
  | .local _ .vmem, ⟨5, _⟩ => ⟨S1x1024, .f32⟩
  | .local _ .vmem, ⟨6, _⟩ => ⟨S1024x768, .f32⟩
  | .local _ .vmem, ⟨7, _⟩ => ⟨S1024x768, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1792x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S8192x1024 : Shape := ⟨2, ![8192, 1024]⟩
abbrev S1024 : Shape := ⟨1, ![1024]⟩
abbrev S1024x1792 : Shape := ⟨2, ![1024, 1792]⟩
abbrev S1792 : Shape := ⟨1, ![1792]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x1792 : Shape := ⟨2, ![8192, 1792]⟩
abbrev S1x1792 : Shape := ⟨2, ![1, 1792]⟩
abbrev S8192x768 : Shape := ⟨2, ![8192, 768]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1792, .f32⟩
  | .hbm, ⟨3, _⟩ => ⟨S1792, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1792, .f32⟩
  | .hbm, ⟨21, _⟩ => ⟨S1x1792, .f32⟩
  | .hbm, ⟨22, _⟩ => ⟨S8192x1792, .f32⟩
  | .hbm, ⟨23, _⟩ => ⟨S8192x1792, .f32⟩
  | .hbm, ⟨24, _⟩ => ⟨S8192x768, .f32⟩
  | .hbm, ⟨25, _⟩ => ⟨S8192x1024, .f32⟩
  | .hbm, ⟨26, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel6.lean ====
abbrev S8192x1024 : Shape := ⟨2, ![8192, 1024]⟩
abbrev S8192x512 : Shape := ⟨2, ![8192, 512]⟩
abbrev S1024x1024 : Shape := ⟨2, ![1024, 1024]⟩
abbrev S1024 : Shape := ⟨1, ![1024]⟩
abbrev S1x1024 : Shape := ⟨2, ![1, 1024]⟩
abbrev S1024x512 : Shape := ⟨2, ![1024, 512]⟩
abbrev S512x1024 : Shape := ⟨2, ![512, 1024]⟩
abbrev S1024x1 : Shape := ⟨2, ![1024, 1]⟩

abbrev nBuf : Space → Nat
  | .hbm => 11
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S8192x1024 : Shape := ⟨2, ![8192, 1024]⟩
abbrev S8192x512 : Shape := ⟨2, ![8192, 512]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S8192x512, .f32⟩
  | .hbm, ⟨7, _⟩ => ⟨S8192x512, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S1x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel7.lean ====
abbrev S8192x1024 : Shape := ⟨2, ![8192, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S5632x1024 : Shape := ⟨2, ![5632, 1024]⟩
abbrev S8x704x1024 : Shape := ⟨3, ![8, 704, 1024]⟩
abbrev S3x8x704 : Shape := ⟨3, ![3, 8, 704]⟩
abbrev S8x3x704 : Shape := ⟨3, ![8, 3, 704]⟩
abbrev S_ : Shape := ⟨0, ![]⟩
abbrev S8x3x768 : Shape := ⟨3, ![8, 3, 768]⟩
abbrev S8x1x704 : Shape := ⟨3, ![8, 1, 704]⟩
abbrev S8x1x768 : Shape := ⟨3, ![8, 1, 768]⟩
abbrev S4x704x1024 : Shape := ⟨3, ![4, 704, 1024]⟩
abbrev S2x4x8192x768 : Shape := ⟨4, ![2, 4, 8192, 768]⟩
abbrev S4x8192x704 : Shape := ⟨3, ![4, 8192, 704]⟩
abbrev S1x1 : Shape := ⟨2, ![1, 1]⟩
abbrev S512x1024 : Shape := ⟨2, ![512, 1024]⟩
abbrev S2x1x512x768 : Shape := ⟨4, ![2, 1, 512, 768]⟩
abbrev S1x512x704 : Shape := ⟨3, ![1, 512, 704]⟩
abbrev S2x6x520x128 : Shape := ⟨4, ![2, 6, 520, 128]⟩
abbrev S8x8x704 : Shape := ⟨3, ![8, 8, 704]⟩
abbrev S512x768 : Shape := ⟨2, ![512, 768]⟩
abbrev S1x3x768 : Shape := ⟨3, ![1, 3, 768]⟩
abbrev S3x768 : Shape := ⟨2, ![3, 768]⟩
abbrev S1x1x768 : Shape := ⟨3, ![1, 1, 768]⟩
abbrev S1x768 : Shape := ⟨2, ![1, 768]⟩
abbrev S256x1024 : Shape := ⟨2, ![256, 1024]⟩
abbrev S1x256x1024 : Shape := ⟨3, ![1, 256, 1024]⟩
abbrev S256x256 : Shape := ⟨2, ![256, 256]⟩
abbrev S1x1x256x256 : Shape := ⟨4, ![1, 1, 256, 256]⟩
abbrev S1x8x128 : Shape := ⟨3, ![1, 8, 128]⟩
abbrev S8x128 : Shape := ⟨2, ![8, 128]⟩
abbrev S1x1x8x128 : Shape := ⟨4, ![1, 1, 8, 128]⟩
abbrev S256x128 : Shape := ⟨2, ![256, 128]⟩
abbrev S1x1x256x128 : Shape := ⟨4, ![1, 1, 256, 128]⟩
abbrev S8x256 : Shape := ⟨2, ![8, 256]⟩
abbrev S1x8x256 : Shape := ⟨3, ![1, 8, 256]⟩
abbrev S1x128 : Shape := ⟨2, ![1, 128]⟩
abbrev S1x1x520x128 : Shape := ⟨4, ![1, 1, 520, 128]⟩
abbrev S520x128 : Shape := ⟨2, ![520, 128]⟩
abbrev S128x128 : Shape := ⟨2, ![128, 128]⟩
abbrev S1x1x128x128 : Shape := ⟨4, ![1, 1, 128, 128]⟩
abbrev S512x256 : Shape := ⟨2, ![512, 256]⟩
abbrev S1x512x256 : Shape := ⟨3, ![1, 512, 256]⟩
abbrev S1x192x1024 : Shape := ⟨3, ![1, 192, 1024]⟩
abbrev S192x1024 : Shape := ⟨2, ![192, 1024]⟩
abbrev S256x192 : Shape := ⟨2, ![256, 192]⟩
abbrev S1x1x256x192 : Shape := ⟨4, ![1, 1, 256, 192]⟩
abbrev S256x64 : Shape := ⟨2, ![256, 64]⟩
abbrev S1x1x256x64 : Shape := ⟨4, ![1, 1, 256, 64]⟩
abbrev S1x8x64 : Shape := ⟨3, ![1, 8, 64]⟩
abbrev S8x64 : Shape := ⟨2, ![8, 64]⟩
abbrev S1x1x8x64 : Shape := ⟨4, ![1, 1, 8, 64]⟩
abbrev S8x192 : Shape := ⟨2, ![8, 192]⟩
abbrev S1x8x192 : Shape := ⟨3, ![1, 8, 192]⟩
abbrev S512x192 : Shape := ⟨2, ![512, 192]⟩
abbrev S1x512x192 : Shape := ⟨3, ![1, 512, 192]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 27
  | .vmem => 25
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S1024x5632, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S5632x1024, .f32⟩
  | .hbm, ⟨8, _⟩ => ⟨S5632x1024, .bf16⟩
  | .hbm, ⟨9, _⟩ => ⟨S8x704x1024, .bf16⟩
  | .hbm, ⟨10, _⟩ => ⟨S3x8x704, .f32⟩
  | .hbm, ⟨11, _⟩ => ⟨S8x3x704, .f32⟩
  | .hbm, ⟨12, _⟩ => ⟨S_, .i32⟩
  | .hbm, ⟨13, _⟩ => ⟨S_, .f32⟩
  | .hbm, ⟨14, _⟩ => ⟨S8x3x768, .f32⟩
  | .hbm, ⟨15, _⟩ => ⟨S8x1x704, .f32⟩
  | .hbm, ⟨16, _⟩ => ⟨S_, .i32⟩
  | .hbm, ⟨17, _⟩ => ⟨S_, .f32⟩
  | .hbm, ⟨18, _⟩ => ⟨S8x1x768, .f32⟩
  | .hbm, ⟨19, _⟩ => ⟨S2816x1024, .bf16⟩
  | .hbm, ⟨20, _⟩ => ⟨S4x704x1024, .bf16⟩
  | .hbm, ⟨21, _⟩ => ⟨S2x4x8192x768, .bf16⟩
  | .hbm, ⟨22, _⟩ => ⟨S2x4x8192x768, .bf16⟩
  | .hbm, ⟨23, _⟩ => ⟨S4x8192x704, .bf16⟩
  | .hbm, ⟨24, _⟩ => ⟨S8192x1024, .f32⟩
  | .hbm, ⟨25, _⟩ => ⟨S8192x1024, .bf16⟩
  | .hbm, ⟨26, _⟩ => ⟨S1x1, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x704x1024, .bf16⟩
  | .local _ .vmem, ⟨7, _⟩ => ⟨S8x3x768, .f32⟩
  | .local _ .vmem, ⟨8, _⟩ => ⟨S8x1x768, .f32⟩
  | .local _ .vmem, ⟨9, _⟩ => ⟨S4x704x1024, .bf16⟩
  | .local _ .vmem, ⟨10, _⟩ => ⟨S2x1x512x768, .bf16⟩
  | .local _ .vmem, ⟨11, _⟩ => ⟨S2x1x512x768, .bf16⟩
  | .local _ .vmem, ⟨12, _⟩ => ⟨S2x1x512x768, .bf16⟩
  | .local _ .vmem, ⟨13, _⟩ => ⟨S2x1x512x768, .bf16⟩
  | .local _ .vmem, ⟨14, _⟩ => ⟨S1x512x704, .bf16⟩
  | .local _ .vmem, ⟨15, _⟩ => ⟨S1x512x704, .bf16⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S1x1, .f32⟩
  | .local _ .vmem, ⟨21, _⟩ => ⟨S2x6x520x128, .f32⟩
  | .local _ .vmem, ⟨22, _⟩ => ⟨S8x8x704, .f32⟩
  | .local _ .vmem, ⟨23, _⟩ => ⟨S512x768, .bf16⟩
  | .local _ .vmem, ⟨24, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_call1_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v10_2 : Ref sig .tc := ⟨.hbm, 23, rfl⟩
abbrev main_v10_3 : Ref sig .tc := ⟨.hbm, 24, rfl⟩
abbrev main_v10_4 : Ref sig .tc := ⟨.hbm, 25, rfl⟩
abbrev main_v10_5 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20

abbrev nD : Nat := 1
abbrev τ : Topo := Topo.v7x

variable {F : FTy → Type} [FloatOps F]

abbrev grid0 : Pipeline.Grid := ⟨2, ![16, 4], ![false, false]⟩

def k0_off1 (i : grid0.Coords) : Fin 3 → Nat :=
  let arg1 : BitVec 32 := BitVec.ofNat 32 (i 1).val
  let v8 : Index := Scalar.indexCast arg1
  let c0 : Index := 0#32
  let c0_4 : Index := 0#32
  ![v8.toNat, 0, 0]
def k0_off2 (i : grid0.Coords) : Fin 3 → Nat :=
  let arg1 : BitVec 32 := BitVec.ofNat 32 (i 1).val
  let c4_i32 : BitVec 32 := 4#32
  let v11 : BitVec 32 := Scalar.addi arg1 c4_i32
  let v12 : Index := Scalar.indexCast v11
  let c0_5 : Index := 0#32
  let c0_6 : Index := 0#32
  ![v12.toNat, 0, 0]
def k0_off3 (i : grid0.Coords) : Fin 3 → Nat :=
  let arg1 : BitVec 32 := BitVec.ofNat 32 (i 1).val
  let v15 : Index := Scalar.indexCast arg1
  let c0_7 : Index := 0#32
  let c0_8 : Index := 0#32
  ![v15.toNat, 0, 0]
def k0_off4 (i : grid0.Coords) : Fin 3 → Nat :=
  let arg1 : BitVec 32 := BitVec.ofNat 32 (i 1).val
  let c4_i32_9 : BitVec 32 := 4#32
  let v18 : BitVec 32 := Scalar.addi arg1 c4_i32_9
  let v19 : Index := Scalar.indexCast v18
  let c0_10 : Index := 0#32
  let c0_11 : Index := 0#32
  ![v19.toNat, 0, 0]
def k0_off5 (i : grid0.Coords) (c0_i32_12 : BitVec 32) : Fin 3 → Nat :=
  let arg1 : BitVec 32 := BitVec.ofNat 32 (i 1).val
  let v22 : BitVec 32 := Scalar.addi arg1 c0_i32_12
  let v24 : Index := Scalar.indexCast v22
  let c0_15 : Index := 0#32
  let c0_16 : Index := 0#32
  ![v24.toNat, 0, 0]
def k0_off6 (i : grid0.Coords) (c0_i32_12 : BitVec 32) : Fin 3 → Nat :=
  let arg1 : BitVec 32 := BitVec.ofNat 32 (i 1).val
  let v22 : BitVec 32 := Scalar.addi arg1 c0_i32_12
  let v32 : Index := Scalar.indexCast v22
  let c0_21 : Index := 0#32
  let c0_22 : Index := 0#32
  ![v32.toNat, 0, 0]
def k0_off7 (i : grid0.Coords) (c0_i32_12 : BitVec 32) : Fin 3 → Nat :=
  let arg1 : BitVec 32 := BitVec.ofNat 32 (i 1).val
  let v22 : BitVec 32 := Scalar.addi arg1 c0_i32_12
  let v42 : Index := Scalar.indexCast v22
  let c0_30 : Index := 0#32
  let c128 : Index := 128#32
  ![v42.toNat, 0, 128]
def k0_off8 (i : grid0.Coords) (c0_i32_38 : BitVec 32) : Fin 3 → Nat :=
  let arg1 : BitVec 32 := BitVec.ofNat 32 (i 1).val
  let v52 : BitVec 32 := Scalar.addi arg1 c0_i32_38
  let v71 : Index := Scalar.indexCast v52
  let c0_54 : Index := 0#32
  let c0_55 : Index := 0#32
  ![v71.toNat, 0, 0]
def k0_off9 (i : grid0.Coords) (c0_i32_152 : BitVec 32) : Fin 3 → Nat :=
  let arg1 : BitVec 32 := BitVec.ofNat 32 (i 1).val
  let v195 : BitVec 32 := Scalar.addi arg1 c0_i32_152
  let v197 : Index := Scalar.indexCast v195
  let c256_155 : Index := 256#32
  let c0_156 : Index := 0#32
  ![v197.toNat, 256, 0]
def k0_off10 (i : grid0.Coords) (c0_i32_152 : BitVec 32) : Fin 3 → Nat :=
  let arg1 : BitVec 32 := BitVec.ofNat 32 (i 1).val
  let v195 : BitVec 32 := Scalar.addi arg1 c0_i32_152
  let v205 : Index := Scalar.indexCast v195
  let c0_162 : Index := 0#32
  let c256_163 : Index := 256#32
  ![v205.toNat, 0, 256]
def k0_off11 (i : grid0.Coords) (c0_i32_152 : BitVec 32) : Fin 3 → Nat :=
  let arg1 : BitVec 32 := BitVec.ofNat 32 (i 1).val
  let v195 : BitVec 32 := Scalar.addi arg1 c0_i32_152
  let v215 : Index := Scalar.indexCast v195
  let c0_171 : Index := 0#32
  let c384 : Index := 384#32
  ![v215.toNat, 0, 384]
def k0_off12 (i : grid0.Coords) (c0_i32_225 : BitVec 32) : Fin 3 → Nat :=
  let arg1 : BitVec 32 := BitVec.ofNat 32 (i 1).val
  let v292 : BitVec 32 := Scalar.addi arg1 c0_i32_225
  let v311 : Index := Scalar.indexCast v292
  let c0_243 : Index := 0#32
  let c256_244 : Index := 256#32
  ![v311.toNat, 0, 256]
def k0_off13 (i : grid0.Coords) (c0_i32_637 : BitVec 32) : Fin 3 → Nat :=
  let arg1 : BitVec 32 := BitVec.ofNat 32 (i 1).val
  let v841 : BitVec 32 := Scalar.addi arg1 c0_i32_637
  let v843 : Index := Scalar.indexCast v841
  let c512 : Index := 512#32
  let c0_640 : Index := 0#32
  ![v843.toNat, 512, 0]
def k0_off14 (i : grid0.Coords) (c0_i32_637 : BitVec 32) : Fin 3 → Nat :=
  let arg1 : BitVec 32 := BitVec.ofNat 32 (i 1).val
  let v841 : BitVec 32 := Scalar.addi arg1 c0_i32_637
  let v855 : Index := Scalar.indexCast v841
  let c0_650 : Index := 0#32
  let c512_651 : Index := 512#32
  ![v855.toNat, 0, 512]
def k0_off15 (i : grid0.Coords) (c0_i32_637 : BitVec 32) : Fin 3 → Nat :=
  let arg1 : BitVec 32 := BitVec.ofNat 32 (i 1).val
  let v841 : BitVec 32 := Scalar.addi arg1 c0_i32_637
  let v865 : Index := Scalar.indexCast v841
  let c0_659 : Index := 0#32
  let c640 : Index := 640#32
  ![v865.toNat, 0, 640]
def k0_off16 (i : grid0.Coords) (c0_i32_716 : BitVec 32) : Fin 3 → Nat :=
  let arg1 : BitVec 32 := BitVec.ofNat 32 (i 1).val
  let v942 : BitVec 32 := Scalar.addi arg1 c0_i32_716
  let v965 : Index := Scalar.indexCast v942
  let c0_739 : Index := 0#32
  let c512_740 : Index := 512#32
  ![v965.toNat, 0, 512]
def k0_off17 (i : grid0.Coords) : Fin 3 → Nat :=
  let arg1 : BitVec 32 := BitVec.ofNat 32 (i 1).val
  let v1233 : Index := Scalar.indexCast arg1
  let c0_951 : Index := 0#32
  let c0_952 : Index := 0#32
  ![v1233.toNat, 0, 0]
def k0_off18 (i : grid0.Coords) : Fin 3 → Nat :=
  let arg1 : BitVec 32 := BitVec.ofNat 32 (i 1).val
  let v1659 : Index := Scalar.indexCast arg1
  let c256_1268 : Index := 256#32
  let c0_1269 : Index := 0#32
  ![v1659.toNat, 256, 0]
def k0_off19 (i : grid0.Coords) : Fin 3 → Nat :=
  let arg1 : BitVec 32 := BitVec.ofNat 32 (i 1).val
  let v2018 : Index := Scalar.indexCast arg1
  let c512_1535 : Index := 512#32
  let c0_1536 : Index := 0#32
  ![v2018.toNat, 512, 0]
def k0_cond3 (i : grid0.Coords) : BitVec 1 :=
  let arg1 : BitVec 32 := BitVec.ofNat 32 (i 1).val
  let c3_i32_1549 : BitVec 32 := 3#32
  let v2036 : BitVec 1 := Scalar.cmpi .eq arg1 c3_i32_1549
  let v2037 : BitVec 32 := Scalar.extui v2036
  let c0_i32_1550 : BitVec 32 := 0#32
  let v2038 : BitVec 1 := Scalar.cmpi .ne v2037 c0_i32_1550
  v2038

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x3x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x704x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2x1x512x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x1x512x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== Reference7Ideal.lean ====
abbrev S8192x1024 : Shape := ⟨2, ![8192, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S8192x5632 : Shape := ⟨2, ![8192, 5632]⟩
abbrev S8192x2x4x704 : Shape := ⟨4, ![8192, 2, 4, 704]⟩
abbrev S2x4x8192x704 : Shape := ⟨4, ![2, 4, 8192, 704]⟩
abbrev S_ : Shape := ⟨0, ![]⟩
abbrev S2x4x8192x768 : Shape := ⟨4, ![2, 4, 8192, 768]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S1024x5632, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S8192x1024, .f32⟩
  | .hbm, ⟨8, _⟩ => ⟨S8192x5632, .f32⟩
  | .hbm, ⟨9, _⟩ => ⟨S8192x2x4x704, .f32⟩
  | .hbm, ⟨10, _⟩ => ⟨S2x4x8192x704, .f32⟩
  | .hbm, ⟨11, _⟩ => ⟨S_, .i32⟩
  | .hbm, ⟨12, _⟩ => ⟨S_, .f32⟩
  | .hbm, ⟨13, _⟩ => ⟨S2x4x8192x768, .f32⟩
  | .hbm, ⟨14, _⟩ => ⟨S2x4x8192x768, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩

abbrev nD : Nat := 1
abbrev τ : Topo := Topo.v7x

variable {F : FTy → Type} [FloatOps F]
-- ==== Kernel8.lean ====
abbrev S1024x224 : Shape := ⟨2, ![1024, 224]⟩
abbrev S128x1024 : Shape := ⟨2, ![128, 1024]⟩
abbrev S1024x704 : Shape := ⟨2, ![1024, 704]⟩
abbrev S352x1024 : Shape := ⟨2, ![352, 1024]⟩
abbrev S224x1024 : Shape := ⟨2, ![224, 1024]⟩
abbrev S704x1024 : Shape := ⟨2, ![704, 1024]⟩
abbrev S56x1024 : Shape := ⟨2, ![56, 1024]⟩
abbrev S32x1024 : Shape := ⟨2, ![32, 1024]⟩
abbrev S176x1024 : Shape := ⟨2, ![176, 1024]⟩
abbrev S88x1024 : Shape := ⟨2, ![88, 1024]⟩

abbrev nBuf : Space → Nat
  | .hbm => 40
  | .vmem => 56
  | .smem => 0
  | _ => 0

abbrev bufTy : (tb : Table) → Fin (tcTables nBuf tb) → BufTy
  | .hbm, ⟨0, _⟩ => ⟨S1024x224, .f32⟩
  | .hbm, ⟨1, _⟩ => ⟨S128x1024, .f32⟩
  | .hbm, ⟨2, _⟩ => ⟨S1024x704, .f32⟩
  | .hbm, ⟨3, _⟩ => ⟨S352x1024, .f32⟩
  | .hbm, ⟨4, _⟩ => ⟨S224x1024, .f32⟩
  | .hbm, ⟨5, _⟩ => ⟨S128x1024, .f32⟩
  | .hbm, ⟨6, _⟩ => ⟨S704x1024, .f32⟩
  | .hbm, ⟨7, _⟩ => ⟨S352x1024, .f32⟩
  | .hbm, ⟨8, _⟩ => ⟨S1024x224, .f32⟩
  | .hbm, ⟨9, _⟩ => ⟨S128x1024, .f32⟩
  | .hbm, ⟨10, _⟩ => ⟨S1024x704, .f32⟩
  | .hbm, ⟨11, _⟩ => ⟨S352x1024, .f32⟩
  | .hbm, ⟨12, _⟩ => ⟨S1024x224, .f32⟩
  | .hbm, ⟨13, _⟩ => ⟨S128x1024, .f32⟩
  | .hbm, ⟨14, _⟩ => ⟨S1024x704, .f32⟩
  | .hbm, ⟨15, _⟩ => ⟨S352x1024, .f32⟩
  | .hbm, ⟨16, _⟩ => ⟨S224x1024, .f32⟩
  | .hbm, ⟨17, _⟩ => ⟨S704x1024, .f32⟩
  | .hbm, ⟨18, _⟩ => ⟨S224x1024, .f32⟩
  | .hbm, ⟨19, _⟩ => ⟨S704x1024, .f32⟩
  | .hbm, ⟨20, _⟩ => ⟨S224x1024, .f32⟩
  | .hbm, ⟨21, _⟩ => ⟨S704x1024, .f32⟩
  | .hbm, ⟨22, _⟩ => ⟨S224x1024, .f32⟩
  | .hbm, ⟨23, _⟩ => ⟨S224x1024, .f32⟩
  | .hbm, ⟨24, _⟩ => ⟨S224x1024, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S704x1024, .f32⟩
  | .hbm, ⟨29, _⟩ => ⟨S704x1024, .f32⟩
  | .hbm, ⟨30, _⟩ => ⟨S704x1024, .f32⟩
  | .hbm, ⟨31, _⟩ => ⟨S352x1024, .f32⟩
  | .hbm, ⟨32, _⟩ => ⟨S352x1024, .f32⟩
  | .hbm, ⟨33, _⟩ => ⟨S352x1024, .f32⟩
  | .hbm, ⟨34, _⟩ => ⟨S1024x224, .f32⟩
  | .hbm, ⟨35, _⟩ => ⟨S1024x224, .f32⟩
  | .hbm, ⟨36, _⟩ => ⟨S1024x224, .f32⟩
  | .hbm, ⟨37, _⟩ => ⟨S1024x704, .f32⟩
  | .hbm, ⟨38, _⟩ => ⟨S1024x704, .f32⟩
  | .hbm, ⟨39, _⟩ => ⟨S1024x704, .f32⟩
  | .local _ .vmem, ⟨0, _⟩ => ⟨S56x1024, .f32⟩
  | .local _ .vmem, ⟨1, _⟩ => ⟨S56x1024, .f32⟩
  | .local _ .vmem, ⟨2, _⟩ => ⟨S56x1024, .f32⟩
  | .local _ .vmem, ⟨3, _⟩ => ⟨S56x1024, .f32⟩
  | .local _ .vmem, ⟨4, _⟩ => ⟨S56x1024, .f32⟩
  | .local _ .vmem, ⟨5, _⟩ => ⟨S56x1024, .f32⟩
  | .local _ .vmem, ⟨6, _⟩ => ⟨S56x1024, .f32⟩
  | .local _ .vmem, ⟨7, _⟩ => ⟨S56x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | .local _ .vmem, ⟨16, _⟩ => ⟨S176x1024, .f32⟩
  | .local _ .vmem, ⟨17, _⟩ => ⟨S176x1024, .f32⟩
  | .local _ .vmem, ⟨18, _⟩ => ⟨S176x1024, .f32⟩
  | .local _ .vmem, ⟨19, _⟩ => ⟨S176x1024, .f32⟩
  | .local _ .vmem, ⟨20, _⟩ => ⟨S176x1024, .f32⟩
  | .local _ .vmem, ⟨21, _⟩ => ⟨S176x1024, .f32⟩
  | .local _ .vmem, ⟨22, _⟩ => ⟨S176x1024, .f32⟩
  | .local _ .vmem, ⟨23, _⟩ => ⟨S176x1024, .f32⟩
  | .local _ .vmem, ⟨24, _⟩ => ⟨S88x1024, .f32⟩
  | .local _ .vmem, ⟨25, _⟩ => ⟨S88x1024, .f32⟩
  | .local _ .vmem, ⟨26, _⟩ => ⟨S88x1024, .f32⟩
  | .local _ .vmem, ⟨27, _⟩ => ⟨S88x1024, .f32⟩
  | .local _ .vmem, ⟨28, _⟩ => ⟨S88x1024, .f32⟩
  | .local _ .vmem, ⟨29, _⟩ => ⟨S88x1024, .f32⟩
  | .local _ .vmem, ⟨30, _⟩ => ⟨S88x1024, .f32⟩
  | .local _ .vmem, ⟨31, _⟩ => ⟨S88x1024, .f32⟩
  | .local _ .vmem, ⟨32, _⟩ => ⟨S56x1024, .f32⟩
  | .local _ .vmem, ⟨33, _⟩ => ⟨S56x1024, .f32⟩
  | .local _ .vmem, ⟨34, _⟩ => ⟨S56x1024, .f32⟩
  | .local _ .vmem, ⟨35, _⟩ => ⟨S56x1024, .f32⟩
  | .local _ .vmem, ⟨36, _⟩ => ⟨S56x1024, .f32⟩
  | .local _ .vmem, ⟨37, _⟩ => ⟨S56x1024, .f32⟩
  | .local _ .vmem, ⟨38, _⟩ => ⟨S32x1024, .f32⟩
  | .local _ .vmem, ⟨39, _⟩ => ⟨S32x1024, .f32⟩
  | .local _ .vmem, ⟨40, _⟩ => ⟨S32x1024, .f32⟩
  | .local _ .vmem, ⟨41, _⟩ => ⟨S32x1024, .f32⟩
  | .local _ .vmem, ⟨42, _⟩ => ⟨S32x1024, .f32⟩
  | .local _ .vmem, ⟨43, _⟩ => ⟨S32x1024, .f32⟩
  | .local _ .vmem, ⟨44, _⟩ => ⟨S176x1024, .f32⟩
  | .local _ .vmem, ⟨45, _⟩ => ⟨S176x1024, .f32⟩
  | .local _ .vmem, ⟨46, _⟩ => ⟨S176x1024, .f32⟩
  | .local _ .vmem, ⟨47, _⟩ => ⟨S176x1024, .f32⟩
  | .local _ .vmem, ⟨48, _⟩ => ⟨S176x1024, .f32⟩
  | .local _ .vmem, ⟨49, _⟩ => ⟨S176x1024, .f32⟩
  | .local _ .vmem, ⟨50, _⟩ => ⟨S88x1024, .f32⟩
  | .local _ .vmem, ⟨51, _⟩ => ⟨S88x1024, .f32⟩
  | .local _ .vmem, ⟨52, _⟩ => ⟨S88x1024, .f32⟩
  | .local _ .vmem, ⟨53, _⟩ => ⟨S88x1024, .f32⟩
  | .local _ .vmem, ⟨54, _⟩ => ⟨S88x1024, .f32⟩
  | .local _ .vmem, ⟨55, _⟩ => ⟨S88x1024, .f32⟩
  | _, _ => ⟨S1024x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6_0 : Ref sig .tc := ⟨.hbm, 22, rfl⟩
abbrev main_v6_1 : Ref sig .tc := ⟨.hbm, 23, rfl⟩
abbrev main_v6_2 : Ref sig .tc := ⟨.hbm, 24, rfl⟩
abbrev main_v6_3 : Ref sig .tc := ⟨.hbm, 25, rfl⟩
abbrev main_v6_4 : Ref sig .tc := ⟨.hbm, 26, rfl⟩
abbrev main_v6_5 : Ref sig .tc := ⟨.hbm, 27, rfl⟩
abbrev main_v6_6 : Ref sig .tc := ⟨.hbm, 28, rfl⟩
abbrev main_v6_7 : Ref sig .tc := ⟨.hbm, 29, rfl⟩
abbrev main_v6_8 : Ref sig .tc := ⟨.hbm, 30, rfl⟩
abbrev main_v6_9 : Ref sig .tc := ⟨.hbm, 31, rfl⟩
abbrev main_v6_10 : Ref sig .tc := ⟨.hbm, 32, rfl⟩
abbrev main_v6_11 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_stg26_0 : Ref sig .tc := ⟨.vmem, 52, rfl⟩
abbrev cc0_stg26_1 : Ref sig .tc := ⟨.vmem, 53, rfl⟩
abbrev cc0_stg27_0 : Ref sig .tc := ⟨.vmem, 54, rfl⟩
abbrev cc0_stg27_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51
abbrev cc0_sem26_0 : DmaSem sig := 52
abbrev cc0_sem26_1 : DmaSem sig := 53
abbrev cc0_sem27_0 : DmaSem sig := 54
abbrev cc0_sem27_1 : DmaSem sig := 55

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S56x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S56x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S56x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S56x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S176x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S88x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S88x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S88x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S88x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S56x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S56x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S56x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S32x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S32x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S32x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S176x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S176x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S176x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S88x1024 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S88x1024 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S88x1024 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]
-- ==== Reference8Ideal.lean ====
abbrev S1024x224 : Shape := ⟨2, ![1024, 224]⟩
abbrev S128x1024 : Shape := ⟨2, ![128, 1024]⟩
abbrev S1024x704 : Shape := ⟨2, ![1024, 704]⟩
abbrev S352x1024 : Shape := ⟨2, ![352, 1024]⟩
abbrev S224x1024 : Shape := ⟨2, ![224, 1024]⟩
abbrev S704x1024 : Shape := ⟨2, ![704, 1024]⟩
abbrev S_ : Shape := ⟨0, ![]⟩

abbrev nBuf : Space → Nat
  | .hbm => 150
  | .vmem => 0
  | .smem => 0
  | _ => 0

abbrev hbmTy0_0 (i : Nat) : BufTy := match i % 128 with
  | 0 => ⟨S1024x224, .f32⟩
  | 1 => ⟨S128x1024, .f32⟩
  | 2 => ⟨S1024x704, .f32⟩
  | 3 => ⟨S352x1024, .f32⟩
  | 4 => ⟨S224x1024, .f32⟩
  | 5 => ⟨S128x1024, .f32⟩
  | 6 => ⟨S704x1024, .f32⟩
  | 7 => ⟨S352x1024, .f32⟩
  | 8 => ⟨S1024x224, .f32⟩
  | 9 => ⟨S128x1024, .f32⟩
  | 10 => ⟨S1024x704, .f32⟩
  | 11 => ⟨S352x1024, .f32⟩
  | 12 => ⟨S1024x224, .f32⟩
  | 13 => ⟨S128x1024, .f32⟩
  | 14 => ⟨S1024x704, .f32⟩
  | 15 => ⟨S352x1024, .f32⟩
  | 16 => ⟨S1024x224, .f32⟩
  | 17 => ⟨S_, .f32⟩
  | 18 => ⟨S1024x224, .f32⟩
  | 19 => ⟨S1024x224, .f32⟩
  | 20 => ⟨S_, .f32⟩
  | 21 => ⟨S1024x224, .f32⟩
  | 22 => ⟨S1024x224, .f32⟩
  | 23 => ⟨S1024x224, .f32⟩
  | 24 => ⟨S_, .f32⟩
  | 25 => ⟨S1024x224, .f32⟩
  | 26 => ⟨S1024x224, .f32⟩
  | 27 => ⟨S1024x224, .f32⟩
  | 28 => ⟨S_, .f32⟩
  | 29 => ⟨S1024x224, .f32⟩
  | 30 => ⟨S1024x224, .f32⟩
  | 31 => ⟨S1024x224, .f32⟩
  | 32 => ⟨S_, .f32⟩
  | 33 => ⟨S1024x224, .f32⟩
  | 34 => ⟨S1024x224, .f32⟩
  | 35 => ⟨S_, .f32⟩
  | 36 => ⟨S1024x224, .f32⟩
  | 37 => ⟨S1024x224, .f32⟩
  | 38 => ⟨S1024x224, .f32⟩
  | 39 => ⟨S_, .f32⟩
  | 40 => ⟨S1024x224, .f32⟩
  | 41 => ⟨S1024x224, .f32⟩
  | 42 => ⟨S1024x224, .f32⟩
  | 43 => ⟨S_, .f32⟩
  | 44 => ⟨S1024x224, .f32⟩
  | 45 => ⟨S1024x224, .f32⟩
  | 46 => ⟨S1024x224, .f32⟩
  | 47 => ⟨S_, .f32⟩
  | 48 => ⟨S1024x224, .f32⟩
  | 49 => ⟨S1024x224, .f32⟩
  | 50 => ⟨S_, .f32⟩
  | 51 => ⟨S128x1024, .f32⟩
  | 52 => ⟨S128x1024, .f32⟩
  | 53 => ⟨S_, .f32⟩
  | 54 => ⟨S128x1024, .f32⟩
  | 55 => ⟨S128x1024, .f32⟩
  | 56 => ⟨S128x1024, .f32⟩
  | 57 => ⟨S_, .f32⟩
  | 58 => ⟨S128x1024, .f32⟩
  | 59 => ⟨S128x1024, .f32⟩
  | 60 => ⟨S128x1024, .f32⟩
  | 61 => ⟨S_, .f32⟩
  | 62 => ⟨S128x1024, .f32⟩
  | 63 => ⟨S128x1024, .f32⟩
  | 64 => ⟨S128x1024, .f32⟩
  | 65 => ⟨S_, .f32⟩
  | 66 => ⟨S128x1024, .f32⟩
  | 67 => ⟨S128x1024, .f32⟩
  | 68 => ⟨S_, .f32⟩
  | 69 => ⟨S128x1024, .f32⟩
  | 70 => ⟨S128x1024, .f32⟩
  | 71 => ⟨S128x1024, .f32⟩
  | 72 => ⟨S_, .f32⟩
  | 73 => ⟨S128x1024, .f32⟩
  | 74 => ⟨S128x1024, .f32⟩
  | 75 => ⟨S128x1024, .f32⟩
  | 76 => ⟨S_, .f32⟩
  | 77 => ⟨S128x1024, .f32⟩
  | 78 => ⟨S128x1024, .f32⟩
  | 79 => ⟨S128x1024, .f32⟩
  | 80 => ⟨S_, .f32⟩
  | 81 => ⟨S128x1024, .f32⟩
  | 82 => ⟨S128x1024, .f32⟩
  | 83 => ⟨S1024x704, .f32⟩
  | 84 => ⟨S_, .f32⟩
  | 85 => ⟨S1024x704, .f32⟩
  | 86 => ⟨S1024x704, .f32⟩
  | 87 => ⟨S_, .f32⟩
  | 88 => ⟨S1024x704, .f32⟩
  | 89 => ⟨S1024x704, .f32⟩
  | 90 => ⟨S1024x704, .f32⟩
  | 91 => ⟨S_, .f32⟩
  | 92 => ⟨S1024x704, .f32⟩
  | 93 => ⟨S1024x704, .f32⟩
  | 94 => ⟨S1024x704, .f32⟩
  | 95 => ⟨S_, .f32⟩
  | 96 => ⟨S1024x704, .f32⟩
  | 97 => ⟨S1024x704, .f32⟩
  | 98 => ⟨S1024x704, .f32⟩
  | 99 => ⟨S_, .f32⟩
  | 100 => ⟨S1024x704, .f32⟩
  | 101 => ⟨S1024x704, .f32⟩
  | 102 => ⟨S_, .f32⟩
  | 103 => ⟨S1024x704, .f32⟩
  | 104 => ⟨S1024x704, .f32⟩
  | 105 => ⟨S1024x704, .f32⟩
  | 106 => ⟨S_, .f32⟩
  | 107 => ⟨S1024x704, .f32⟩
  | 108 => ⟨S1024x704, .f32⟩
  | 109 => ⟨S1024x704, .f32⟩
  | 110 => ⟨S_, .f32⟩
  | 111 => ⟨S1024x704, .f32⟩
  | 112 => ⟨S1024x704, .f32⟩
  | 113 => ⟨S1024x704, .f32⟩
  | 114 => ⟨S_, .f32⟩
  | 115 => ⟨S1024x704, .f32⟩
  | 116 => ⟨S1024x704, .f32⟩
  | 117 => ⟨S_, .f32⟩
  | 118 => ⟨S352x1024, .f32⟩
  | 119 => ⟨S352x1024, .f32⟩
  | 120 => ⟨S_, .f32⟩
  | 121 => ⟨S352x1024, .f32⟩
  | 122 => ⟨S352x1024, .f32⟩
  | 123 => ⟨S352x1024, .f32⟩
  | 124 => ⟨S_, .f32⟩
  | 125 => ⟨S352x1024, .f32⟩
  | 126 => ⟨S352x1024, .f32⟩
  | 127 => ⟨S352x1024, .f32⟩
  | _ => ⟨S1024x224, .f32⟩

abbrev hbmTy0_1 (i : Nat) : BufTy := match i % 128 with
  | 0 => ⟨S_, .f32⟩
  | 1 => ⟨S352x1024, .f32⟩
  | 2 => ⟨S352x1024, .f32⟩
  | 3 => ⟨S352x1024, .f32⟩
  | 4 => ⟨S_, .f32⟩
  | 5 => ⟨S352x1024, .f32⟩
  | 6 => ⟨S352x1024, .f32⟩
  | 7 => ⟨S_, .f32⟩
  | 8 => ⟨S352x1024, .f32⟩
  | 9 => ⟨S352x1024, .f32⟩
  | 10 => ⟨S352x1024, .f32⟩
  | 11 => ⟨S_, .f32⟩
  | 12 => ⟨S352x1024, .f32⟩
  | 13 => ⟨S352x1024, .f32⟩
  | 14 => ⟨S352x1024, .f32⟩
  | 15 => ⟨S_, .f32⟩
  | 16 => ⟨S352x1024, .f32⟩
  | 17 => ⟨S352x1024, .f32⟩
  | 18 => ⟨S352x1024, .f32⟩
  | 19 => ⟨S_, .f32⟩
  | 20 => ⟨S352x1024, .f32⟩
  | 21 => ⟨S352x1024, .f32⟩
  | _ => ⟨S1024x224, .f32⟩

abbrev hbmTy (i : Nat) : BufTy := match i / 128 with
  | 0 => hbmTy0_0 i
  | 1 => hbmTy0_1 i
  | _ => ⟨S1024x224, .f32⟩

abbrev bufTy : (tb : Table) → Fin (tcTables nBuf tb) → BufTy
  | .hbm, ⟨i, _⟩ => hbmTy i
  | _, _ => ⟨S1024x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_cst_1 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_3 : Ref sig .tc := ⟨.hbm, 32, rfl⟩
abbrev main_v12 : Ref sig .tc := ⟨.hbm, 33, rfl⟩
abbrev main_v13 : Ref sig .tc := ⟨.hbm, 34, rfl⟩
abbrev main_cst_4 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_5 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_6 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_7 : Ref sig .tc := ⟨.hbm, 47, rfl⟩
abbrev main_v23 : Ref sig .tc := ⟨.hbm, 48, rfl⟩
abbrev main_v24 : Ref sig .tc := ⟨.hbm, 49, rfl⟩
abbrev main_cst_8 : Ref sig .tc := ⟨.hbm, 50, rfl⟩
abbrev main_v25 : Ref sig .tc := ⟨.hbm, 51, rfl⟩
abbrev main_v26 : Ref sig .tc := ⟨.hbm, 52, rfl⟩
abbrev main_cst_9 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_10 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_11 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_12 : Ref sig .tc := ⟨.hbm, 65, rfl⟩
abbrev main_v36 : Ref sig .tc := ⟨.hbm, 66, rfl⟩
abbrev main_v37 : Ref sig .tc := ⟨.hbm, 67, rfl⟩
abbrev main_cst_13 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_14 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst_15 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_cst_16 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_cst_17 : Ref sig .tc := ⟨.hbm, 84, rfl⟩
abbrev main_v50 : Ref sig .tc := ⟨.hbm, 85, rfl⟩
abbrev main_v51 : Ref sig .tc := ⟨.hbm, 86, rfl⟩
abbrev main_cst_18 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_cst_19 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_cst_20 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_cst_21 : Ref sig .tc := ⟨.hbm, 99, rfl⟩
abbrev main_v61 : Ref sig .tc := ⟨.hbm, 100, rfl⟩
abbrev main_v62 : Ref sig .tc := ⟨.hbm, 101, rfl⟩
abbrev main_cst_22 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_cst_23 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_cst_24 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_cst_25 : Ref sig .tc := ⟨.hbm, 114, rfl⟩
abbrev main_v72 : Ref sig .tc := ⟨.hbm, 115, rfl⟩
abbrev main_v73 : Ref sig .tc := ⟨.hbm, 116, rfl⟩
abbrev main_cst_26 : Ref sig .tc := ⟨.hbm, 117, rfl⟩
abbrev main_v74 : Ref sig .tc := ⟨.hbm, 118, rfl⟩
abbrev main_v75 : Ref sig .tc := ⟨.hbm, 119, rfl⟩
abbrev main_cst_27 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_cst_28 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_cst_29 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_cst_30 : Ref sig .tc := ⟨.hbm, 132, rfl⟩
abbrev main_v85 : Ref sig .tc := ⟨.hbm, 133, rfl⟩
abbrev main_v86 : Ref sig .tc := ⟨.hbm, 134, rfl⟩
abbrev main_cst_31 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_cst_32 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_cst_33 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_cst_34 : Ref sig .tc := ⟨.hbm, 147, rfl⟩
abbrev main_v96 : Ref sig .tc := ⟨.hbm, 148, rfl⟩
abbrev main_v97 : Ref sig .tc := ⟨.hbm, 149, rfl⟩

abbrev nD : Nat := 1
abbrev τ : Topo := Topo.v7x

variable {F : FTy → Type} [FloatOps F]
-- ==== Proof.Rms.lean ====
module

public import Idealize.ShloMosaic.PureOps.Ideal
public import Mathlib.Data.EReal.Operations
public import Mathlib.Algebra.Order.BigOperators.Group.Finset

@[expose] public section

noncomputable section

/-!
The gradient of a root mean square normalisation, over the extended reals.

A row `x` of `n` entries is normalised to `x j * r` with `r = rsqrt (mean of the squares + e)`. For a cotangent `dn` of the normalised row
the kernel computes `r * (dn j - n j * mean (dn * n))` where `n j = x j * r`. Differentiating the normalisation term by term instead gives
`dn j * r` plus twice `x j` times the cotangent of the mean of the squares. The two agree for every extended real input: either all entries of
the row are real and `r` is a positive real, or the mean of the squares is infinite and `r` is zero.
-/

namespace Cert.Rms

open Idealize.ShloMosaic

/-- A positive real factor goes into a finite sum of extended reals. -/
theorem coe_mul_sum {ι : Type*} (s : Finset ι) (f : ι → EReal) (r : ℝ) (hr : 0 ≤ r) : (r : EReal) * ∑ i ∈ s, f i = ∑ i ∈ s, (r : EReal) * f i := by
  classical
  induction s using Finset.induction_on with
  | empty => simp
  | insert a s ha ih =>
    rw [Finset.sum_insert ha, Finset.sum_insert ha, EReal.left_distrib_of_nonneg_of_ne_top (by exact_mod_cast hr) (EReal.coe_ne_top r), ih]

/-- A finite sum of reals, as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The square of an extended real is not negative. -/
theorem sq_nonneg' (x : EReal) : 0 ≤ x * x := by
  induction x with
  | bot => simp
  | top => simp
  | coe r => rw [← EReal.coe_mul]; exact_mod_cast mul_self_nonneg r

/-- A sum of squares is infinite as soon as one of the entries is. -/
theorem sum_sq_top {n : ℕ} (x : Fin n → EReal) (l : Fin n) (h : x l = ⊤ ∨ x l = ⊥) : ∑ i, x i * x i = ⊤ := by
  have h1 : x l * x l = ⊤ := by rcases h with h | h <;> rw [h] <;> simp
  refine top_le_iff.mp ?_
  rw [← h1]
  exact Finset.single_le_sum (f := fun i => x i * x i) (fun i _ => sq_nonneg' (x i)) (Finset.mem_univ l)

/-- A real multiple of an extended real, twice. -/
theorem twice (S : EReal) (a : ℝ) : S * (a : EReal) + S * (a : EReal) = S * ((2 * a : ℝ) : EReal) := by
  induction S with
  | coe s => rw [← EReal.coe_mul, ← EReal.coe_add, ← EReal.coe_mul]; congr 1; ring
  | top =>
    rcases lt_trichotomy a 0 with h | rfl | h
    · rw [EReal.top_mul_coe_of_neg h, EReal.top_mul_coe_of_neg (by linarith)]; rfl
    · simp
    · rw [EReal.top_mul_coe_of_pos h, EReal.top_mul_coe_of_pos (by linarith)]; rfl
  | bot =>
    rcases lt_trichotomy a 0 with h | rfl | h
    · rw [EReal.bot_mul_coe_of_neg h, EReal.bot_mul_coe_of_neg (by linarith)]; rfl
    · simp
    · rw [EReal.bot_mul_coe_of_pos h, EReal.bot_mul_coe_of_pos (by linarith)]; rfl

/-- The mean of the squares plus `e`: infinite, or a positive real while every entry is real. -/
theorem mean_cases {n : ℕ} (x : Fin n → EReal) {c ε : ℝ} (hc : 0 < c) (hε : 0 < ε) :
    Ideal.div (∑ l, x l * x l) (c : EReal) + (ε : EReal) = ⊤ ∨
      ∃ (y : Fin n → ℝ) (s : ℝ), (∀ l, x l = (y l : EReal)) ∧ 0 < s ∧ Ideal.div (∑ l, x l * x l) (c : EReal) + (ε : EReal) = (s : EReal) := by
  by_cases h : ∃ l, x l = ⊤ ∨ x l = ⊥
  · left
    obtain ⟨l, h⟩ := h
    rw [sum_sq_top x l h, Ideal.div_coe hc.ne', EReal.top_mul_coe_of_pos (by positivity)]; rfl
  · right
    have h' : ∀ l, ∃ r : ℝ, x l = (r : EReal) := fun l =>
      ⟨(x l).toReal, (EReal.coe_toReal (fun e => h ⟨l, .inl e⟩) (fun e => h ⟨l, .inr e⟩)).symm⟩
    choose y hy using h'
    refine ⟨y, (∑ l, y l * y l) * (1 / c) + ε, hy, ?_, ?_⟩
    · have : 0 ≤ ∑ l, y l * y l := Finset.sum_nonneg fun l _ => mul_self_nonneg _
      positivity
    · have e : ∑ l, x l * x l = ((∑ l, y l * y l : ℝ) : EReal) := by
        rw [coe_sum]; exact Finset.sum_congr rfl fun l _ => by rw [hy l, EReal.coe_mul]
      rw [e, Ideal.div_coe hc.ne', ← EReal.coe_mul, ← EReal.coe_add]

/-- The kernel's gradient of the normalisation is the term by term one. `d` is what the residual path adds. -/
theorem grad {n : ℕ} (x dn : Fin n → EReal) (d : EReal) (j : Fin n) {c ε : ℝ} (hc : 0 < c) (hε : 0 < ε) :
    d + Ideal.rsqrt (Ideal.div (∑ l, x l * x l) (c : EReal) + (ε : EReal))
        * (dn j - x j * Ideal.rsqrt (Ideal.div (∑ l, x l * x l) (c : EReal) + (ε : EReal))
          * Ideal.div (∑ l, dn l * (x l * Ideal.rsqrt (Ideal.div (∑ l, x l * x l) (c : EReal) + (ε : EReal)))) (c : EReal))
      = d + dn j * Ideal.rsqrt (Ideal.div (∑ l, x l * x l) (c : EReal) + (ε : EReal))
        + x j * Ideal.div ((∑ l, x l * dn l) * (((-1 / 2 : ℝ) : EReal)
          * Ideal.div (Ideal.rsqrt (Ideal.div (∑ l, x l * x l) (c : EReal) + (ε : EReal))) (Ideal.div (∑ l, x l * x l) (c : EReal) + (ε : EReal)))) (c : EReal)
        + Ideal.div ((∑ l, x l * dn l) * (((-1 / 2 : ℝ) : EReal)
          * Ideal.div (Ideal.rsqrt (Ideal.div (∑ l, x l * x l) (c : EReal) + (ε : EReal))) (Ideal.div (∑ l, x l * x l) (c : EReal) + (ε : EReal)))) (c : EReal) * x j := by
  rcases mean_cases x hc hε with h | ⟨y, s, hy, hs, h⟩
  · rw [h]
    have e0 : Ideal.div (0 : EReal) ⊤ = 0 := by rw [Ideal.div, if_neg (by simp)]; simp
    simp [e0, Ideal.div_coe hc.ne']
  · rw [h, Ideal.rsqrt_coe, if_neg (by linarith), if_neg hs.ne']
    set ρ : ℝ := (Real.sqrt s)⁻¹ with hρ
    have hρ0 : 0 ≤ ρ := by positivity
    have hsum : ∑ l, dn l * (x l * (ρ : EReal)) = (ρ : EReal) * ∑ l, x l * dn l := by
      rw [coe_mul_sum _ _ ρ hρ0]
      exact Finset.sum_congr rfl fun l _ => by rw [mul_comm, mul_comm (x l) (ρ : EReal), mul_assoc]
    have hk : ((-1 / 2 : ℝ) : EReal) * Ideal.div (ρ : EReal) (s : EReal) = ((-1 / 2 * (ρ * (1 / s)) : ℝ) : EReal) := by
      rw [Ideal.div_coe hs.ne', ← EReal.coe_mul, ← EReal.coe_mul]
    have hρs : ρ * ρ = 1 / s := by
      rw [hρ, ← mul_inv, Real.mul_self_sqrt hs.le, one_div]
    rw [hsum, hk, Ideal.div_coe hc.ne', Ideal.div_coe hc.ne', hy j, sub_eq_add_neg,
      EReal.left_distrib_of_nonneg_of_ne_top (by exact_mod_cast hρ0) (EReal.coe_ne_top ρ), add_assoc (d + _), add_assoc d,
      mul_comm (dn j)]
    congr 2
    generalize ∑ l, x l * dn l = S
    have e1 : (y j : EReal) * (S * ((-1 / 2 * (ρ * (1 / s)) : ℝ) : EReal) * ((1 / c : ℝ) : EReal)) = S * ((y j * (-1 / 2 * (ρ * (1 / s))) * (1 / c) : ℝ) : EReal) := by
      push_cast; ac_rfl
    rw [mul_comm _ (y j : EReal), e1, twice, ← mul_neg, ← EReal.coe_mul, mul_neg, mul_neg, ← mul_neg]
    have e2 : (ρ : EReal) * -(((y j * ρ : ℝ) : EReal) * ((ρ : EReal) * S * ((1 / c : ℝ) : EReal))) = S * ((-(ρ * (y j * ρ) * (ρ * (1 / c))) : ℝ) : EReal) := by
      rw [EReal.coe_neg, mul_neg, mul_neg]
      congr 1
      push_cast; ac_rfl
    rw [← mul_neg] at *
    rw [e2]
    congr 2
    rw [← hρs]; ring

end Cert.Rms
end
-- ==== Proof.RmsSpec.lean ====
module

public import proofs.«01_k».proof.Proof.Rms

@[expose] public section

noncomputable section

/-!
The normalisation and its gradient with the constants of the programs: rows of 1024 entries, and a small positive number under the root.
-/

namespace Cert.Rms

open Idealize.ShloMosaic

/-- The length of a row, as the programs spell it. -/
abbrev len : EReal := Ideal.ofBits .f32 1149239296#32
/-- The number under the root. -/
abbrev eps : EReal := Ideal.ofBits .f32 897988541#32
/-- The exponent of the root, as the derivative brings it down. -/
abbrev mhalf : EReal := Ideal.ofBits .f32 3204448256#32

theorem len_eq : len = ((1024 : ℝ) : EReal) := by
  simp [len, Ideal.ofBits, Ideal.ieee]; rw [← EReal.coe_mul]; norm_num

theorem eps_eq : ∃ e : ℝ, 0 < e ∧ eps = (e : EReal) := by
  refine ⟨_, ?_, by simp [eps, Ideal.ofBits, Ideal.ieee]; rfl⟩
  positivity

theorem mhalf_eq : mhalf = ((-1 / 2 : ℝ) : EReal) := by
  simp [mhalf, Ideal.ofBits, Ideal.ieee]; rw [← EReal.coe_mul]; norm_num

/-- The mean of the squares of a row, plus the small number. -/
def ms (x : Fin 1024 → EReal) : EReal := Ideal.div (∑ l, x l * x l) len + eps
/-- What a row is multiplied by. -/
def inv (x : Fin 1024 → EReal) : EReal := Ideal.rsqrt (ms x)
/-- The cotangent of the mean of the squares, over the length of the row. -/
def dms (x dn : Fin 1024 → EReal) : EReal := Ideal.div ((∑ l, x l * dn l) * (mhalf * Ideal.div (inv x) (ms x))) len
/-- The cotangent of a row: `d` arrives at the row itself and `dn` at the normalised row. -/
def gradRow (x dn : Fin 1024 → EReal) (d : EReal) (j : Fin 1024) : EReal := d + dn j * inv x + x j * dms x dn + dms x dn * x j

/-- The kernels' form of the cotangent of a row. -/
theorem gradRow_eq (x dn : Fin 1024 → EReal) (d : EReal) (j : Fin 1024) :
    d + inv x * (dn j - x j * inv x * Ideal.div (∑ l, dn l * (x l * inv x)) len) = gradRow x dn d j := by
  obtain ⟨e, he, hq⟩ := eps_eq
  simp only [gradRow, dms, inv, ms, len_eq, mhalf_eq, hq]
  exact grad x dn d j (by norm_num) he

end Cert.Rms

end
-- ==== Proof.InBwdSpec.lean ====
module

public import proofs.«01_k».proof.Proof.RmsSpec

@[expose] public section

set_option maxRecDepth 16384

noncomputable section

/-!
The gradients of the input projection and of the normalisation before it, entry by entry.

`x` is the layer's input, `g` the gain, `w` the projection's weights. The cotangent of the projection arrives in two parts, `q` for its first
768 columns and `c` for the other 1024, and `d` is the cotangent that reaches `x` by the residual path.
-/

namespace Cert.InBwd

open Idealize.ShloMosaic

/-- The cotangent of the projection, its two parts side by side. -/
def cat (q : Fin 8192 → Fin 768 → EReal) (c : Fin 8192 → Fin 1024 → EReal) (i : Fin 8192) (k : Fin 1792) : EReal :=
  if h : k.val < 768 then q i ⟨k.val, h⟩ else c i ⟨k.val - 768, by omega⟩

/-- The cotangent of the normalised input. -/
def dh (w : Fin 1024 → Fin 1792 → EReal) (q : Fin 8192 → Fin 768 → EReal) (c : Fin 8192 → Fin 1024 → EReal) (i : Fin 8192) (j : Fin 1024) : EReal :=
  ∑ k : Fin 768, q i k * w j ⟨k.val, by omega⟩ + ∑ k : Fin 1024, c i k * w j ⟨768 + k.val, by omega⟩

/-- The gradient of the input. -/
def gx (x : Fin 8192 → Fin 1024 → EReal) (g : Fin 1024 → EReal) (w : Fin 1024 → Fin 1792 → EReal) (q : Fin 8192 → Fin 768 → EReal)
    (c d : Fin 8192 → Fin 1024 → EReal) (i : Fin 8192) (j : Fin 1024) : EReal :=
  Rms.gradRow (x i) (fun l => dh w q c i l * g l) (d i j) j

/-- The gradient of the gain. -/
def dg (x : Fin 8192 → Fin 1024 → EReal) (w : Fin 1024 → Fin 1792 → EReal) (q : Fin 8192 → Fin 768 → EReal)
    (c : Fin 8192 → Fin 1024 → EReal) (j : Fin 1024) : EReal :=
  ∑ i : Fin 8192, dh w q c i j * (x i j * Rms.inv (x i))

/-- The gradient of the projection's weights, transposed. -/
def dw (x : Fin 8192 → Fin 1024 → EReal) (g : Fin 1024 → EReal) (q : Fin 8192 → Fin 768 → EReal)
    (c : Fin 8192 → Fin 1024 → EReal) (k : Fin 1792) (j : Fin 1024) : EReal :=
  ∑ i : Fin 8192, cat q c i k * (x i j * Rms.inv (x i) * g j)

end Cert.InBwd

end
-- ==== Proof.InBwd.lean ====
module

public import proofs.«01_k».proof.Proof.InBwdSpec
public import proofs.«01_k».proof.Proof.Gen.KernelIdeal.Value
public import Idealize.ShloMosaic.Lib.Pointwise
public import Idealize.ShloMosaic.Lib.Claim
public import Idealize.ShloMosaic.Lib.Pipeline.ValueKit
public import Idealize.ShloMosaic.Lib.Pipeline.ReadBack

@[expose] public section

set_option maxRecDepth 16384

noncomputable section

/-!
What the three result arrays of the kernel for the input projection hold after its run.
-/

open Idealize.ShloMosaic Idealize.ShloMosaic.TcCoe Idealize.SL.Sem

namespace Cert.KernelIdeal.Value

open Cert.KernelIdeal Cert.KernelIdeal.Gen

variable (m : (ℓ : Loc nD τ sig) → Buf (Elt Ideal) ℓ) (c : Dev nD)

/-- Which block each window shows at a point. -/
theorem idx : ∀ t : Fin cfg0.N, win0_0.index t = ![t.val, 0] ∧ win0_1.index t = ![t.val, 0] ∧ win0_2.index t = ![0, 0] ∧ win0_3.index t = ![t.val, 0]
    ∧ win0_4.index t = ![t.val, 0] ∧ win0_5.index t = ![0, 0] ∧ win0_6.index t = ![t.val, 0] ∧ win0_7.index t = ![t.val, 0]
    ∧ win0_8.index t = ![0, 0] ∧ win0_9.index t = ![0, 0] :=
  (by decide +kernel : ∀ t : Fin grid0.N, _)

/-- The row of the whole array that is row `a` of block `t`. -/
def row (t : Fin cfg0.N) (a : Fin 512) : Fin 8192 := ⟨t.val * 512 + a.val, by have := t.isLt; have : cfg0.N = 16 := N_0; omega⟩

/-! The arguments, by row and column. -/

def X (i : Fin 8192) (j : Fin 1024) : EReal := m ((c.tc : Thread nD τ).loc main_arg0) (ix2 i j)
def G (j : Fin 1024) : EReal := m ((c.tc : Thread nD τ).loc main_arg1) (ix1 j)
def W (i : Fin 1024) (j : Fin 1792) : EReal := m ((c.tc : Thread nD τ).loc main_arg2) (ix2 i j)
def Q (i : Fin 8192) (j : Fin 768) : EReal := m ((c.tc : Thread nD τ).loc main_arg3) (ix2 i j)
def C (i : Fin 8192) (j : Fin 1024) : EReal := m ((c.tc : Thread nD τ).loc main_arg4) (ix2 i j)
def D (i : Fin 8192) (j : Fin 1024) : EReal := m ((c.tc : Thread nD τ).loc main_arg5) (ix2 i j)

/-! What the input windows show. -/

theorem in0 (t : Fin cfg0.N) (a : Fin 512) (k : Fin 768) : iblk m c 0 t (ix2 a k) = Q m c (row t a) k := by
  unfold Q row; blk_ext [iblk, V, idx t]
theorem in1 (t : Fin cfg0.N) (a : Fin 512) (k : Fin 1024) : iblk m c 1 t (ix2 a k) = C m c (row t a) k := by
  unfold C row; blk_ext [iblk, V, idx t]
theorem in2 (t : Fin cfg0.N) (a : Fin 1792) (k : Fin 1024) : iblk m c 2 t (ix2 a k) = W m c k a := by
  unfold W; blk_simp [iblk, idx t]; entry_read; pointwise; blk_ext [idx t]
theorem in3 (t : Fin cfg0.N) (a : Fin 512) (k : Fin 1024) : iblk m c 3 t (ix2 a k) = X m c (row t a) k := by
  unfold X row; blk_ext [iblk, V, idx t]
theorem in4 (t : Fin cfg0.N) (a : Fin 512) (k : Fin 1024) : iblk m c 4 t (ix2 a k) = D m c (row t a) k := by
  unfold D row; blk_ext [iblk, V, idx t]
theorem in5 (t : Fin cfg0.N) (a : Fin 1) (k : Fin 1024) : iblk m c 5 t (ix2 a k) = G m c k := by
  unfold G; blk_simp [iblk, idx t]; entry_read; pointwise; blk_ext [idx t]
theorem in6 (t : Fin cfg0.N) (a : Fin 512) (k : Fin 1024) :
    iblk m c 6 t (ix2 a k) = X m c (row t a) k * Rms.inv (X m c (row t a)) * G m c k := by
  unfold X G row; blk_simp [iblk, idx t]; entry_read; pointwise [Rms.inv, Rms.ms]; blk_point [idx t]

/-! ## The gradient of the input -/

theorem gx_block (t : Fin cfg0.N) (a : Fin 512) (j : Fin 1024) :
    (outsAt0 m c t.val t.isLt).1 (ix2 a j) = InBwd.gx (X m c) (G m c) (W m c) (Q m c) (C m c) (D m c) (row t a) j := by
  by_cases h : t.val % 16 = 0
  · rw [outsAt0_A m c t h]; frame_out
    pointwise [k0_pay1, k0_pay2, k0_pay3, k0_pay5, k0_pay10, k0_pay11]
    simp only [in0, in1, in2, in3, in4, in5]
    exact Rms.gradRow_eq (X m c (row t a)) (fun l => InBwd.dh (W m c) (Q m c) (C m c) (row t a) l * G m c l) (D m c (row t a) j) j
  · rw [outsAt0_B m c t h]; frame_out
    pointwise [k0_pay1, k0_pay2, k0_pay3, k0_pay5, k0_pay10, k0_pay11]
    simp only [in0, in1, in2, in3, in4, in5]
    exact Rms.gradRow_eq (X m c (row t a)) (fun l => InBwd.dh (W m c) (Q m c) (C m c) (row t a) l * G m c l) (D m c (row t a) j) j

theorem final_gx : (dats m 0 c).arrAt 7 cfg0.N
    = fun y : S8192x1024.Idx => InBwd.gx (X m c) (G m c) (W m c) (Q m c) (C m c) (D m c) (y 0) (y 1) := by
  refine (dats m 0 c).arrAt_eq_of_covers 7 _ (by decide +kernel) fun t hf y => ?_
  blk_simp
  rw [after0_7]
  obtain ⟨a, j, rfl⟩ : ∃ (a : Fin 512) (j : Fin 1024), y = ix2 a j := ⟨y 0, y 1, by funext i; match i with | 0 => rfl | 1 => rfl⟩
  refine (gx_block m c t a j).trans ?_
  have e : ((cfg0.win 7).blk t).view.emb (ix2 a j) = ix2 (row t a) j := by unfold row; blk_ext [idx t]
  simp only [e]; rfl

/-! ## The gradient of the gain -/

theorem dg_A (t : Fin cfg0.N) (y : S1x1024.Idx) (h : t.val % 16 = 0) : (outsAt0 m c t.val t.isLt).2.1 y
    = 0 + ∑ a : Fin 512, InBwd.dh (W m c) (Q m c) (C m c) (row t a) (y 1) * (X m c (row t a) (y 1) * Rms.inv (X m c (row t a))) := by
  rw [outsAt0_A m c t h]; frame_out
  idx_vars y
  pointwise [k0_pay1, k0_pay2, k0_pay3, k0_pay4, k0_pay6, k0_pay10, k0_pay11]
  simp only [in0, in1, in2, in3]
  rfl

theorem dg_B (t : Fin cfg0.N) (y : S1x1024.Idx) (h : ¬t.val % 16 = 0) : (outsAt0 m c t.val t.isLt).2.1 y
    = (outsAt0 m c (t.val - 1) (Nat.lt_of_le_of_lt (Nat.sub_le _ _) t.isLt)).2.1 y
      + ∑ a : Fin 512, InBwd.dh (W m c) (Q m c) (C m c) (row t a) (y 1) * (X m c (row t a) (y 1) * Rms.inv (X m c (row t a))) := by
  rw [outsAt0_B m c t h]; frame_out
  idx_vars y
  pointwise [k0_pay1, k0_pay2, k0_pay3, k0_pay4, k0_pay10, k0_pay11]
  simp only [in0, in1, in2, in3]
  rfl

/-- A sum over the points and over the rows of their blocks is a sum over all rows. -/
theorem sum_rows (f : Fin 8192 → EReal) : ∑ t : Fin cfg0.N, ∑ a : Fin 512, f (row t a) = ∑ i, f i :=
  Fin.sum_mul_add_congr (S := cfg0.N) (n := 512) (L := 8192) fun t a h => rfl

theorem final_dg : (dats m 0 c).arrAt 8 cfg0.N = fun y : S1x1024.Idx => InBwd.dg (X m c) (W m c) (Q m c) (C m c) (y 1) := by
  refine (dats m 0 c).arrAt_eq_of_after_last 8 t0_15 (by decide +kernel) _ fun j => ?_
  blk_simp
  rw [after0_8, Pipeline.eq_sum_fin_of_reset_step_apply_last (fun n h => (outsAt0 m c n h).2.1) 16 (fun _ => 0) _
    (fun t h y => dg_A m c t y h) (fun t h y => dg_B m c t y h) (le_of_eq N_0) t0_15 rfl j]
  rw [zero_add]
  exact sum_rows fun i => InBwd.dh (W m c) (Q m c) (C m c) i (j 1) * (X m c i (j 1) * Rms.inv (X m c i))

/-! ## The gradient of the projection's weights -/

/-- What point `t` adds to an entry. -/
def term (t : Fin cfg0.N) (y : S1792x1024.Idx) : EReal :=
  ∑ a : Fin 512, InBwd.cat (Q m c) (C m c) (row t a) (y 0) * (X m c (row t a) (y 1) * Rms.inv (X m c (row t a)) * G m c (y 1))

theorem cover (y : S1792x1024.Idx) : y ∈ (Rect.unit ![768, 0] ![1024, 1024] inb_S1792x1024_S1024x1024_768_0).set
    ∨ y ∈ (Rect.unit ![0, 0] ![768, 1024] inb_S1792x1024_S768x1024_0_0).set := by
  by_cases h : (y 0).val < 768
  · right; rw [Rect.mem_set_unit]; intro a; match a with
    | 0 => exact ⟨Nat.zero_le _, by simpa using h⟩
    | 1 => exact ⟨Nat.zero_le _, by simpa using (y 1).isLt⟩
  · left; rw [Rect.mem_set_unit]; intro a; match a with
    | 0 => exact ⟨by simpa using h, by simpa using (y 0).isLt⟩
    | 1 => exact ⟨Nat.zero_le _, by simpa using (y 1).isLt⟩

theorem emb_hi (a : Fin 1024) (j : Fin 1024) : (Rect.unit (s := S1792x1024) ![768, 0] ![1024, 1024] inb_S1792x1024_S1024x1024_768_0).emb (ix2 a j)
    = (ix2 ⟨768 + a.val, by omega⟩ j : S1792x1024.Idx) := by blk_ext
theorem emb_lo (a : Fin 768) (j : Fin 1024) : (Rect.unit (s := S1792x1024) ![0, 0] ![768, 1024] inb_S1792x1024_S768x1024_0_0).emb (ix2 a j)
    = (ix2 ⟨a.val, by omega⟩ j : S1792x1024.Idx) := by blk_ext

theorem term_hi (t : Fin cfg0.N) (a : Fin 1024) (j : Fin 1024) : term m c t (ix2 ⟨768 + a.val, by omega⟩ j)
    = ∑ x : Fin 512, C m c (row t x) a * (X m c (row t x) j * Rms.inv (X m c (row t x)) * G m c j) :=
  Finset.sum_congr rfl fun x _ => by
    congr 1
    show InBwd.cat (Q m c) (C m c) (row t x) ⟨768 + a.val, by omega⟩ = _
    rw [InBwd.cat, dif_neg (by simp)]; congr 1; ext; simp

theorem term_lo (t : Fin cfg0.N) (a : Fin 768) (j : Fin 1024) : term m c t (ix2 ⟨a.val, by omega⟩ j)
    = ∑ x : Fin 512, Q m c (row t x) a * (X m c (row t x) j * Rms.inv (X m c (row t x)) * G m c j) :=
  Finset.sum_congr rfl fun x _ => by
    congr 1
    show InBwd.cat (Q m c) (C m c) (row t x) ⟨a.val, by omega⟩ = _
    rw [InBwd.cat, dif_pos a.isLt]

theorem dw_B (t : Fin cfg0.N) (y : S1792x1024.Idx) (h : ¬ t.val % 16 = 0) : (outsAt0 m c t.val t.isLt).2.2 y
    = (outsAt0 m c (t.val - 1) (Nat.lt_of_le_of_lt (Nat.sub_le _ _) t.isLt)).2.2 y + term m c t y := by
  rw [outsAt0_B m c t h]; frame_out
  refine View.canon_append_of_piecesOf (fun y => (outsAt0 m c (t.val - 1) (Nat.lt_of_le_of_lt (Nat.sub_le _ _) t.isLt)).2.2 y + term m c t y) [] [_, _]
    ⟨?_, ?_, trivial⟩ y ?_
  · intro x; idx_vars x; simp only [emb_hi, term_hi]; pointwise [k0_pay9]; simp only [in1, in6]
  · intro x; idx_vars x; simp only [emb_lo, term_lo]; pointwise [k0_pay8]; simp only [in0, in6]
  · rcases cover y with h | h
    · exact ⟨_, List.mem_cons_self, h⟩
    · exact ⟨_, List.mem_cons_of_mem _ List.mem_cons_self, h⟩

/-- A load after the buffer was filled with zeros reads zeros. -/
theorem fill (t : Fin cfg0.N) (r : Rect S1792x1024) :
    View.readCov (Val := Elt Ideal) (ms0_9 t).view [⟨Rect.unit ![0, 0] ![1792, 1024] inb_S1792x1024_S1792x1024_0_0, k0_pay7 (F := Ideal)⟩] r.toLoadRect
      = fun _ => (0 : EReal) := by
  rw [View.readCov_eq_canon']
  funext j
  frame_out
  pointwise [k0_pay7]

theorem dw_A (t : Fin cfg0.N) (y : S1792x1024.Idx) (h : t.val % 16 = 0) : (outsAt0 m c t.val t.isLt).2.2 y = 0 + term m c t y := by
  rw [outsAt0_A m c t h]; frame_out
  refine View.canon_append_of_piecesOf (Val := Elt Ideal) (e := .f32) (fun y : S1792x1024.Idx => (0 + term m c t y : EReal)) [_] [_, _]
    ⟨?_, ?_, trivial⟩ y ?_
  · intro x; idx_vars x; simp only [emb_hi, term_hi]
    rw [View.readCov_skip _ _ _ _ _ (by decide), fill]
    pointwise [k0_pay9]; simp only [in1, in6]
  · intro x; idx_vars x; simp only [emb_lo, term_lo]
    rw [fill]
    pointwise [k0_pay8]; simp only [in0, in6]
  · rcases cover y with h | h
    · exact ⟨_, List.mem_cons_self, h⟩
    · exact ⟨_, List.mem_cons_of_mem _ List.mem_cons_self, h⟩

theorem final_dw : (dats m 0 c).arrAt 9 cfg0.N = fun y : S1792x1024.Idx => InBwd.dw (X m c) (G m c) (Q m c) (C m c) (y 0) (y 1) := by
  refine (dats m 0 c).arrAt_eq_of_after_last 9 t0_15 (by decide +kernel) _ fun j => ?_
  blk_simp
  rw [after0_9, Pipeline.eq_sum_fin_of_reset_step_apply_last (fun n h => (outsAt0 m c n h).2.2) 16 (fun _ => 0) _
    (fun t h y => dw_A m c t y h) (fun t h y => dw_B m c t y h) (le_of_eq N_0) t0_15 rfl j]
  rw [zero_add]
  exact sum_rows fun i => InBwd.cat (Q m c) (C m c) i (j 0) * (X m c i (j 1) * Rms.inv (X m c i) * G m c (j 1))

end Cert.KernelIdeal.Value

end
-- ==== Proof.InBwdRef.lean ====
module

public import proofs.«01_k».proof.Proof.InBwdSpec
public import proofs.«01_k».proof.Proof.Gen.ReferenceIdeal.Run
public import Idealize.ShloMosaic.Lib.Pointwise
public import Idealize.ShloMosaic.Lib.Claim

@[expose] public section

set_option maxRecDepth 16384

noncomputable section

/-!
What the reference for the input projection computes.
-/

open Idealize.ShloMosaic Idealize.ShloMosaic.TcCoe Idealize.SL.Sem

namespace Cert.ReferenceIdeal.Value

open Cert.ReferenceIdeal Cert.ReferenceIdeal.Gen

variable (m : (ℓ : Loc nD τ sig) → Buf (Elt Ideal) ℓ) (c : Dev nD)

/-! The arguments, by row and column. -/

def X (i : Fin 8192) (j : Fin 1024) : EReal := m ((c.tc : Thread nD τ).loc main_arg0) (ix2 i j)
def G (j : Fin 1024) : EReal := m ((c.tc : Thread nD τ).loc main_arg1) (ix1 j)
def W (i : Fin 1024) (j : Fin 1792) : EReal := m ((c.tc : Thread nD τ).loc main_arg2) (ix2 i j)
def Q (i : Fin 8192) (j : Fin 768) : EReal := m ((c.tc : Thread nD τ).loc main_arg3) (ix2 i j)
def C (i : Fin 8192) (j : Fin 1024) : EReal := m ((c.tc : Thread nD τ).loc main_arg4) (ix2 i j)
def D (i : Fin 8192) (j : Fin 1024) : EReal := m ((c.tc : Thread nD τ).loc main_arg5) (ix2 i j)

theorem gx_eq : res_main_v43 (F := Ideal) m c
    = fun y : S8192x1024.Idx => InBwd.gx (X m c) (G m c) (W m c) (Q m c) (C m c) (D m c) (y 0) (y 1) := by
  funext y
  idx_vars y
  pointwise [res_main_v43]
  simp only [Fin.sum_univ_one, Finset.univ_unique, Finset.sum_singleton, Finset.sum_const, Finset.card_singleton, one_smul]
  rfl

theorem run_spec (g : Dev nD → PrngReg) :
    θ_run defs (onTc (τ := τ) (main (F := Ideal))) ⟨m, fun _ => 0, g⟩ fun r => ∀ c : Dev nD,
      r.2.mem ((c.tc : Thread nD τ).loc main_v43) = (fun y : S8192x1024.Idx => InBwd.gx (X m c) (G m c) (W m c) (Q m c) (C m c) (D m c) (y 0) (y 1))
      ∧ r.2.mem ((c.tc : Thread nD τ).loc main_v44) = (fun y : S1x1024.Idx => InBwd.dg (X m c) (W m c) (Q m c) (C m c) (y 1))
      ∧ r.2.mem ((c.tc : Thread nD τ).loc main_v45) = (fun y : S1792x1024.Idx => InBwd.dw (X m c) (G m c) (Q m c) (C m c) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run _ _ _).mono (fun r h c => ⟨(h c).1.trans (gx_eq m c), (h c).2.1.trans ?_, (h c).2.2.1.trans ?_, (h c).2.2.2⟩) (run m g)
  · funext y
    idx_vars y
    pointwise
    simp only [Finset.univ_unique, Finset.sum_const, Finset.card_singleton, one_smul]
    exact Finset.sum_congr rfl fun i _ => mul_comm _ _
  · funext y
    idx_vars y
    pointwise
    rfl

end Cert.ReferenceIdeal.Value

end
-- ==== Proof.InBwdEq.lean ====
module

public import proofs.«01_k».proof.Defs
public import proofs.«01_k».proof.Proof.Gen.KernelIdeal
public import proofs.«01_k».proof.Proof.Gen.KernelIdeal.Frame
public import proofs.«01_k».proof.Proof.Gen.ReferenceIdeal
public import proofs.«01_k».proof.Proof.InBwd
public import proofs.«01_k».proof.Proof.InBwdRef
public import Idealize.ShloMosaic.Lib.Claim

@[expose] public section

set_option maxRecDepth 16384

noncomputable section

/-!
The kernel for the input projection and its reference end with the same results.
-/

open Idealize.ShloMosaic Idealize.ShloMosaic.TcCoe Idealize.SL.Sem

namespace Cert.KernelIdeal.Value

open Cert.KernelIdeal Cert.KernelIdeal.Gen

variable (m : (ℓ : Loc nD τ sig) → Buf (Elt Ideal) ℓ) (c : Dev nD)

theorem run_spec (g : Dev nD → PrngReg) :
    θ_run defs (onTc (τ := τ) (main (F := Ideal))) ⟨m, fun _ => 0, g⟩ fun r => ∀ c : Dev nD,
      r.2.mem ((c.tc : Thread nD τ).loc main_v17_0) = (fun y : S8192x1024.Idx => InBwd.gx (X m c) (G m c) (W m c) (Q m c) (C m c) (D m c) (y 0) (y 1))
      ∧ r.2.mem ((c.tc : Thread nD τ).loc main_v17_1) = (fun y : S1x1024.Idx => InBwd.dg (X m c) (W m c) (Q m c) (C m c) (y 1))
      ∧ r.2.mem ((c.tc : Thread nD τ).loc main_v17_2) = (fun y : S1792x1024.Idx => InBwd.dw (X m c) (G m c) (Q m c) (C m c) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run _ _ _).mono (fun r h c => ⟨((h.1 c).1 7).trans (final_gx m c), ((h.1 c).1 8).trans (final_dg m c), ((h.1 c).1 9).trans (final_dw m c), h.2 c⟩) (θ_run_and (run_main m g) (unchanged m g))

end Cert.KernelIdeal.Value

namespace Cert.Proof

/-- The reference's frame: its arguments end unchanged, and it has no semaphore. -/
theorem in_bwd_ref_frame : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run_spec m ρ)

section

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

theorem in_bwd_X (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.ReferenceIdeal.Value.X m' c = Cert.KernelIdeal.Value.X m c := by
  unfold Cert.ReferenceIdeal.Value.X Cert.KernelIdeal.Value.X; rw [h]

theorem in_bwd_G (h : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Value.G m' c = Cert.KernelIdeal.Value.G m c := by
  unfold Cert.ReferenceIdeal.Value.G Cert.KernelIdeal.Value.G; rw [h]

theorem in_bwd_W (h : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Value.W m' c = Cert.KernelIdeal.Value.W m c := by
  unfold Cert.ReferenceIdeal.Value.W Cert.KernelIdeal.Value.W; rw [h]

theorem in_bwd_Q (h : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Value.Q m' c = Cert.KernelIdeal.Value.Q m c := by
  unfold Cert.ReferenceIdeal.Value.Q Cert.KernelIdeal.Value.Q; rw [h]

theorem in_bwd_C (h : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.C m' c = Cert.KernelIdeal.Value.C m c := by
  unfold Cert.ReferenceIdeal.Value.C Cert.KernelIdeal.Value.C; rw [h]

theorem in_bwd_D (h : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Value.D m' c = Cert.KernelIdeal.Value.D m c := by
  unfold Cert.ReferenceIdeal.Value.D Cert.KernelIdeal.Value.D; rw [h]

end

/-- The two ways to the gradients of the input projection and its normalisation agree. -/
theorem in_bwd : Cert.algebraic_KernelIdeal_ReferenceIdeal := by
  intro m g m' g' _ hagree
  refine ⟨_, _, _, Cert.KernelIdeal.Value.run_spec m g, ?_⟩
  refine (θ_run Cert.ReferenceIdeal.defs _ _).mono (fun r h c => ?_) (Cert.ReferenceIdeal.Value.run_spec m' g')
  obtain ⟨h0, h1, h2, h3, h4, h5⟩ := hagree c
  have eX := in_bwd_X m m' c h0
  have eG := in_bwd_G m m' c h1
  have eW := in_bwd_W m m' c h2
  have eQ := in_bwd_Q m m' c h3
  have eC := in_bwd_C m m' c h4
  have eD := in_bwd_D m m' c h5
  have hc := h c
  simp only [eX, eG, eW, eQ, eC, eD] at hc
  exact hc

end Cert.Proof

end
-- ==== Proof.OutBwdSpec.lean ====
module

public import proofs.«01_k».proof.Proof.RmsSpec

@[expose] public section

set_option maxRecDepth 16384

noncomputable section

/-!
The gradients of the output projection and of the normalisation after it, entry by entry.

`x` is the layer's input, `a` and `b` the two halves of what is projected, `w` and `o` the projection's weights and offset, `g` the gain. `dh` is
the cotangent of the normalised sum, and `d` the cotangent that reaches the sum by the residual path.
-/

namespace Cert.OutBwd

open Idealize.ShloMosaic

/-- The two halves side by side. -/
def mix (a b : Fin 8192 → Fin 512 → EReal) (i : Fin 8192) (k : Fin 1024) : EReal :=
  if h : k.val < 512 then a i ⟨k.val, h⟩ else b i ⟨k.val - 512, by omega⟩

/-- The layer's input with the projection added. -/
def sum (x : Fin 8192 → Fin 1024 → EReal) (a b : Fin 8192 → Fin 512 → EReal) (w : Fin 1024 → Fin 1024 → EReal) (o : Fin 1024 → EReal)
    (i : Fin 8192) (j : Fin 1024) : EReal :=
  x i j + (∑ k : Fin 512, a i k * w ⟨k.val, by omega⟩ j + ∑ k : Fin 512, b i k * w ⟨512 + k.val, by omega⟩ j) + o j

/-- The gradient of the sum `s`. -/
def dsum (s dh : Fin 8192 → Fin 1024 → EReal) (g : Fin 1024 → EReal) (d : Fin 8192 → Fin 1024 → EReal) (i : Fin 8192) (j : Fin 1024) : EReal :=
  Rms.gradRow (s i) (fun l => dh i l * g l) (d i j) j

/-- The gradient of the projected values, from the gradient `e` of the sum. -/
def dmix (e : Fin 8192 → Fin 1024 → EReal) (w : Fin 1024 → Fin 1024 → EReal) (i : Fin 8192) (k : Fin 1024) : EReal := ∑ j, e i j * w k j

/-- The gradient of the gain. -/
def dg (s dh : Fin 8192 → Fin 1024 → EReal) (j : Fin 1024) : EReal := ∑ i, dh i j * (s i j * Rms.inv (s i))

/-- The gradient of the weights. -/
def dw (a b : Fin 8192 → Fin 512 → EReal) (e : Fin 8192 → Fin 1024 → EReal) (k j : Fin 1024) : EReal := ∑ i, mix a b i k * e i j

end Cert.OutBwd

end
-- ==== Proof.OutBwd.lean ====
module

public import proofs.«01_k».proof.Proof.OutBwdSpec
public import proofs.«01_k».proof.Proof.Gen.Kernel2Ideal.Value
public import Idealize.ShloMosaic.Lib.Pointwise
public import Idealize.ShloMosaic.Lib.Claim
public import Idealize.ShloMosaic.Lib.Pipeline.ValueKit
public import Idealize.ShloMosaic.Lib.Pipeline.ReadBack

@[expose] public section

set_option maxRecDepth 16384

noncomputable section

/-!
What the five result arrays of the kernel for the output projection hold after its run.
-/

open Idealize.ShloMosaic Idealize.ShloMosaic.TcCoe Idealize.SL.Sem

namespace Cert.Kernel2Ideal.Value

open Cert.Kernel2Ideal Cert.Kernel2Ideal.Gen

variable (m : (ℓ : Loc nD τ sig) → Buf (Elt Ideal) ℓ) (c : Dev nD)

/-- Which block each window shows at a point. -/
theorem idx : ∀ t : Fin cfg0.N, win0_0.index t = ![t.val, 0] ∧ win0_1.index t = ![t.val, 0] ∧ win0_2.index t = ![t.val, 0] ∧ win0_3.index t = ![0, 0]
    ∧ win0_4.index t = ![0, 0] ∧ win0_5.index t = ![t.val, 0] ∧ win0_6.index t = ![t.val, 0] ∧ win0_7.index t = ![t.val, 0]
    ∧ win0_8.index t = ![t.val, 0] ∧ win0_9.index t = ![0, 0] ∧ win0_10.index t = ![0, 0] ∧ win0_11.index t = ![0, 0] :=
  (by decide +kernel : ∀ t : Fin grid0.N, _)

/-- The row of the whole array that is row `a` of block `t`. -/
def row (t : Fin cfg0.N) (a : Fin 1024) : Fin 8192 := ⟨t.val * 1024 + a.val, by have := t.isLt; have : cfg0.N = 8 := N_0; omega⟩

/-! The arguments, by row and column. -/

def X (i : Fin 8192) (j : Fin 1024) : EReal := m ((c.tc : Thread nD τ).loc main_arg0) (ix2 i j)
def A (i : Fin 8192) (j : Fin 512) : EReal := m ((c.tc : Thread nD τ).loc main_arg1) (ix2 i j)
def B (i : Fin 8192) (j : Fin 512) : EReal := m ((c.tc : Thread nD τ).loc main_arg2) (ix2 i j)
def W (i : Fin 1024) (j : Fin 1024) : EReal := m ((c.tc : Thread nD τ).loc main_arg3) (ix2 i j)
def O (j : Fin 1024) : EReal := m ((c.tc : Thread nD τ).loc main_arg4) (ix1 j)
def G (j : Fin 1024) : EReal := m ((c.tc : Thread nD τ).loc main_arg5) (ix1 j)
def H (i : Fin 8192) (j : Fin 1024) : EReal := m ((c.tc : Thread nD τ).loc main_arg6) (ix2 i j)
def D (i : Fin 8192) (j : Fin 1024) : EReal := m ((c.tc : Thread nD τ).loc main_arg7) (ix2 i j)
/-- The layer's input with the projection added. -/
def S : Fin 8192 → Fin 1024 → EReal := OutBwd.sum (X m c) (A m c) (B m c) (W m c) (O m c)
/-- Its gradient. -/
def E : Fin 8192 → Fin 1024 → EReal := OutBwd.dsum (S m c) (H m c) (G m c) (D m c)

/-! What the input windows show. -/

theorem in0 (t : Fin cfg0.N) (a : Fin 1024) (k : Fin 1024) : iblk m c 0 t (ix2 a k) = H m c (row t a) k := by
  unfold H row; blk_ext [iblk, V, idx t]
theorem in1 (t : Fin cfg0.N) (a : Fin 1024) (k : Fin 1024) : iblk m c 1 t (ix2 a k) = D m c (row t a) k := by
  unfold D row; blk_ext [iblk, V, idx t]
theorem in2 (t : Fin cfg0.N) (a : Fin 1024) (k : Fin 1024) : iblk m c 2 t (ix2 a k) = S m c (row t a) k := by
  unfold S X A B W O row; blk_simp [iblk, idx t]; entry_read; pointwise [OutBwd.sum]; blk_point [idx t]
theorem in3 (t : Fin cfg0.N) (a : Fin 1) (k : Fin 1024) : iblk m c 3 t (ix2 a k) = G m c k := by
  unfold G; blk_simp [iblk, idx t]; entry_read; pointwise; blk_ext [idx t]
theorem in4 (t : Fin cfg0.N) (a : Fin 1024) (k : Fin 1024) : iblk m c 4 t (ix2 a k) = W m c a k := by
  unfold W; blk_simp [iblk, idx t]; entry_read; pointwise; blk_ext [idx t]
theorem in5 (t : Fin cfg0.N) (a : Fin 1024) (k : Fin 512) : iblk m c 5 t (ix2 a k) = A m c (row t a) k := by
  unfold A row; blk_ext [iblk, V, idx t]
theorem in6 (t : Fin cfg0.N) (a : Fin 1024) (k : Fin 512) : iblk m c 6 t (ix2 a k) = B m c (row t a) k := by
  unfold B row; blk_ext [iblk, V, idx t]

/-! ## The gradient of the sum -/

/-- What the body computes for the gradient of the sum, at an entry of block `t`. -/
theorem e_block (t : Fin cfg0.N) (a : Fin 1024) (j : Fin 1024) :
    k0_pay10 (k0_pay5 (iblk m c 2 t)) (iblk m c 1 t) (k0_pay9 (iblk m c 2 t) (iblk m c 0 t) (iblk m c 3 t)) (ix2 a j) = E m c (row t a) j := by
  pointwise [k0_pay4, k0_pay5, k0_pay6, k0_pay7, k0_pay9, k0_pay10]
  simp only [in0, in1, in2, in3]
  exact Rms.gradRow_eq (S m c (row t a)) (fun l => H m c (row t a) l * G m c l) (D m c (row t a) j) j

theorem dx_block (t : Fin cfg0.N) (a : Fin 1024) (j : Fin 1024) : (outsAt0 m c t.val t.isLt).1 (ix2 a j) = E m c (row t a) j := by
  by_cases h : t.val % 8 = 0
  · rw [outsAt0_A m c t h]; frame_out; exact e_block m c t a j
  · rw [outsAt0_B m c t h]; frame_out; exact e_block m c t a j

theorem final_dx : (dats m 0 c).arrAt 7 cfg0.N = fun y : S8192x1024.Idx => E m c (y 0) (y 1) := by
  refine (dats m 0 c).arrAt_eq_of_covers 7 _ (by decide +kernel) fun t hf y => ?_
  blk_simp
  rw [after0_7]
  obtain ⟨a, j, rfl⟩ : ∃ (a : Fin 1024) (j : Fin 1024), y = ix2 a j := ⟨y 0, y 1, by funext i; match i with | 0 => rfl | 1 => rfl⟩
  refine (dx_block m c t a j).trans ?_
  have e : ((cfg0.win 7).blk t).view.emb (ix2 a j) = ix2 (row t a) j := by unfold row; blk_ext [idx t]
  simp only [e]; rfl

/-! ## The gradient of the projected values -/

theorem dmix_block (t : Fin cfg0.N) (a : Fin 1024) (j : Fin 1024) :
    (outsAt0 m c t.val t.isLt).2.1 (ix2 a j) = OutBwd.dmix (E m c) (W m c) (row t a) j := by
  by_cases h : t.val % 8 = 0
  · rw [outsAt0_A m c t h]; frame_out; pointwise [k0_pay12, k0_pay13]; simp only [e_block, in4]; rfl
  · rw [outsAt0_B m c t h]; frame_out; pointwise [k0_pay12, k0_pay13]; simp only [e_block, in4]; rfl

theorem final_dmix : (dats m 0 c).arrAt 8 cfg0.N = fun y : S8192x1024.Idx => OutBwd.dmix (E m c) (W m c) (y 0) (y 1) := by
  refine (dats m 0 c).arrAt_eq_of_covers 8 _ (by decide +kernel) fun t hf y => ?_
  blk_simp
  rw [after0_8]
  obtain ⟨a, j, rfl⟩ : ∃ (a : Fin 1024) (j : Fin 1024), y = ix2 a j := ⟨y 0, y 1, by funext i; match i with | 0 => rfl | 1 => rfl⟩
  refine (dmix_block m c t a j).trans ?_
  have e : ((cfg0.win 8).blk t).view.emb (ix2 a j) = ix2 (row t a) j := by unfold row; blk_ext [idx t]
  simp only [e]; rfl

/-! ## The gradients of the gain and of the offset -/

/-- A sum over the points and over the rows of their blocks is a sum over all rows. -/
theorem sum_rows (f : Fin 8192 → EReal) : ∑ t : Fin cfg0.N, ∑ a : Fin 1024, f (row t a) = ∑ i, f i :=
  Fin.sum_mul_add_congr (S := cfg0.N) (n := 1024) (L := 8192) fun t a h => rfl

theorem dg_A (t : Fin cfg0.N) (y : S1x1024.Idx) (h : t.val % 8 = 0) : (outsAt0 m c t.val t.isLt).2.2.1 y
    = 0 + ∑ a : Fin 1024, H m c (row t a) (y 1) * (S m c (row t a) (y 1) * Rms.inv (S m c (row t a))) := by
  rw [outsAt0_A m c t h]; frame_out
  idx_vars y
  pointwise [k0_pay1, k0_pay4, k0_pay5, k0_pay6, k0_pay7, k0_pay8]
  simp only [in0, in2]
  rfl

theorem dg_B (t : Fin cfg0.N) (y : S1x1024.Idx) (h : ¬t.val % 8 = 0) : (outsAt0 m c t.val t.isLt).2.2.1 y
    = (outsAt0 m c (t.val - 1) (Nat.lt_of_le_of_lt (Nat.sub_le _ _) t.isLt)).2.2.1 y
      + ∑ a : Fin 1024, H m c (row t a) (y 1) * (S m c (row t a) (y 1) * Rms.inv (S m c (row t a))) := by
  rw [outsAt0_B m c t h]; frame_out
  idx_vars y
  pointwise [k0_pay4, k0_pay5, k0_pay6, k0_pay7, k0_pay8]
  simp only [in0, in2]
  rfl

theorem final_dg : (dats m 0 c).arrAt 9 cfg0.N = fun y : S1x1024.Idx => OutBwd.dg (S m c) (H m c) (y 1) := by
  refine (dats m 0 c).arrAt_eq_of_after_last 9 t0_7 (by decide +kernel) _ fun j => ?_
  blk_simp
  rw [after0_9, Pipeline.eq_sum_fin_of_reset_step_apply_last (fun n h => (outsAt0 m c n h).2.2.1) 8 (fun _ => 0) _
    (fun t h y => dg_A m c t y h) (fun t h y => dg_B m c t y h) (le_of_eq N_0) t0_7 rfl j]
  rw [zero_add]
  exact sum_rows fun i => H m c i (j 1) * (S m c i (j 1) * Rms.inv (S m c i))

theorem db_A (t : Fin cfg0.N) (y : S1x1024.Idx) (h : t.val % 8 = 0) : (outsAt0 m c t.val t.isLt).2.2.2.1 y
    = 0 + ∑ a : Fin 1024, E m c (row t a) (y 1) := by
  rw [outsAt0_A m c t h]; frame_out
  idx_vars y
  pointwise [k0_pay2, k0_pay11]
  simp only [e_block]

theorem db_B (t : Fin cfg0.N) (y : S1x1024.Idx) (h : ¬t.val % 8 = 0) : (outsAt0 m c t.val t.isLt).2.2.2.1 y
    = (outsAt0 m c (t.val - 1) (Nat.lt_of_le_of_lt (Nat.sub_le _ _) t.isLt)).2.2.2.1 y + ∑ a : Fin 1024, E m c (row t a) (y 1) := by
  rw [outsAt0_B m c t h]; frame_out
  idx_vars y
  pointwise [k0_pay11]
  simp only [e_block]

theorem final_db : (dats m 0 c).arrAt 10 cfg0.N = fun y : S1x1024.Idx => ∑ i, E m c i (y 1) := by
  refine (dats m 0 c).arrAt_eq_of_after_last 10 t0_7 (by decide +kernel) _ fun j => ?_
  blk_simp
  rw [after0_10, Pipeline.eq_sum_fin_of_reset_step_apply_last (fun n h => (outsAt0 m c n h).2.2.2.1) 8 (fun _ => 0) _
    (fun t h y => db_A m c t y h) (fun t h y => db_B m c t y h) (le_of_eq N_0) t0_7 rfl j]
  rw [zero_add]
  exact sum_rows fun i => E m c i (j 1)

/-! ## The gradient of the weights -/

/-- What point `t` adds to an entry. -/
def term (t : Fin cfg0.N) (y : S1024x1024.Idx) : EReal :=
  ∑ a : Fin 1024, OutBwd.mix (A m c) (B m c) (row t a) (y 0) * E m c (row t a) (y 1)

theorem cover (y : S1024x1024.Idx) : y ∈ (Rect.unit ![512, 0] ![512, 1024] inb_S1024x1024_S512x1024_512_0).set
    ∨ y ∈ (Rect.unit ![0, 0] ![512, 1024] inb_S1024x1024_S512x1024_0_0).set := by
  by_cases h : (y 0).val < 512
  · right; rw [Rect.mem_set_unit]; intro a; match a with
    | 0 => exact ⟨Nat.zero_le _, by simpa using h⟩
    | 1 => exact ⟨Nat.zero_le _, by simpa using (y 1).isLt⟩
  · left; rw [Rect.mem_set_unit]; intro a; match a with
    | 0 => exact ⟨by simpa using h, by simpa using (y 0).isLt⟩
    | 1 => exact ⟨Nat.zero_le _, by simpa using (y 1).isLt⟩

theorem emb_hi (a : Fin 512) (j : Fin 1024) : (Rect.unit (s := S1024x1024) ![512, 0] ![512, 1024] inb_S1024x1024_S512x1024_512_0).emb (ix2 a j)
    = (ix2 ⟨512 + a.val, by omega⟩ j : S1024x1024.Idx) := by blk_ext
theorem emb_lo (a : Fin 512) (j : Fin 1024) : (Rect.unit (s := S1024x1024) ![0, 0] ![512, 1024] inb_S1024x1024_S512x1024_0_0).emb (ix2 a j)
    = (ix2 ⟨a.val, by omega⟩ j : S1024x1024.Idx) := by blk_ext

theorem term_hi (t : Fin cfg0.N) (a : Fin 512) (j : Fin 1024) : term m c t (ix2 ⟨512 + a.val, by omega⟩ j)
    = ∑ x : Fin 1024, B m c (row t x) a * E m c (row t x) j :=
  Finset.sum_congr rfl fun x _ => by
    congr 1
    show OutBwd.mix (A m c) (B m c) (row t x) ⟨512 + a.val, by omega⟩ = _
    rw [OutBwd.mix, dif_neg (by simp)]; congr 1; ext; simp

theorem term_lo (t : Fin cfg0.N) (a : Fin 512) (j : Fin 1024) : term m c t (ix2 ⟨a.val, by omega⟩ j)
    = ∑ x : Fin 1024, A m c (row t x) a * E m c (row t x) j :=
  Finset.sum_congr rfl fun x _ => by
    congr 1
    show OutBwd.mix (A m c) (B m c) (row t x) ⟨a.val, by omega⟩ = _
    rw [OutBwd.mix, dif_pos a.isLt]

theorem dw_B (t : Fin cfg0.N) (y : S1024x1024.Idx) (h : ¬ t.val % 8 = 0) : (outsAt0 m c t.val t.isLt).2.2.2.2 y
    = (outsAt0 m c (t.val - 1) (Nat.lt_of_le_of_lt (Nat.sub_le _ _) t.isLt)).2.2.2.2 y + term m c t y := by
  rw [outsAt0_B m c t h]; frame_out
  refine View.canon_append_of_piecesOf (fun y => (outsAt0 m c (t.val - 1) (Nat.lt_of_le_of_lt (Nat.sub_le _ _) t.isLt)).2.2.2.2 y + term m c t y) [] [_, _]
    ⟨?_, ?_, trivial⟩ y ?_
  · intro x; idx_vars x; simp only [emb_hi, term_hi]; pointwise [k0_pay12, k0_pay15]; simp only [e_block, in6]
  · intro x; idx_vars x; simp only [emb_lo, term_lo]; pointwise [k0_pay12, k0_pay14]; simp only [e_block, in5]
  · rcases cover y with h | h
    · exact ⟨_, List.mem_cons_self, h⟩
    · exact ⟨_, List.mem_cons_of_mem _ List.mem_cons_self, h⟩

/-- A load after the buffer was filled with zeros reads zeros. -/
theorem fill (t : Fin cfg0.N) (r : Rect S1024x1024) :
    View.readCov (Val := Elt Ideal) (ms0_11 t).view [⟨Rect.unit ![0, 0] ![1024, 1024] inb_S1024x1024_S1024x1024_0_0, k0_pay3 (F := Ideal)⟩] r.toLoadRect
      = fun _ => (0 : EReal) := by
  rw [View.readCov_eq_canon']
  funext j
  frame_out
  pointwise [k0_pay3]

theorem dw_A (t : Fin cfg0.N) (y : S1024x1024.Idx) (h : t.val % 8 = 0) : (outsAt0 m c t.val t.isLt).2.2.2.2 y = 0 + term m c t y := by
  rw [outsAt0_A m c t h]; frame_out
  refine View.canon_append_of_piecesOf (Val := Elt Ideal) (e := .f32) (fun y : S1024x1024.Idx => (0 + term m c t y : EReal)) [_] [_, _]
    ⟨?_, ?_, trivial⟩ y ?_
  · intro x; idx_vars x; simp only [emb_hi, term_hi]
    rw [View.readCov_skip _ _ _ _ _ (by decide), fill]
    pointwise [k0_pay12, k0_pay15]; simp only [e_block, in6]
  · intro x; idx_vars x; simp only [emb_lo, term_lo]
    rw [fill]
    pointwise [k0_pay12, k0_pay14]; simp only [e_block, in5]
  · rcases cover y with h | h
    · exact ⟨_, List.mem_cons_self, h⟩
    · exact ⟨_, List.mem_cons_of_mem _ List.mem_cons_self, h⟩

theorem final_dw : (dats m 0 c).arrAt 11 cfg0.N = fun y : S1024x1024.Idx => OutBwd.dw (A m c) (B m c) (E m c) (y 0) (y 1) := by
  refine (dats m 0 c).arrAt_eq_of_after_last 11 t0_7 (by decide +kernel) _ fun j => ?_
  blk_simp
  rw [after0_11, Pipeline.eq_sum_fin_of_reset_step_apply_last (fun n h => (outsAt0 m c n h).2.2.2.2) 8 (fun _ => 0) _
    (fun t h y => dw_A m c t y h) (fun t h y => dw_B m c t y h) (le_of_eq N_0) t0_7 rfl j]
  rw [zero_add]
  exact sum_rows fun i => OutBwd.mix (A m c) (B m c) i (j 0) * E m c i (j 1)

end Cert.Kernel2Ideal.Value

end
-- ==== Proof.OutBwdRef.lean ====
module

public import proofs.«01_k».proof.Proof.OutBwdSpec
public import proofs.«01_k».proof.Proof.Gen.Reference2Ideal.Run
public import Idealize.ShloMosaic.Lib.Pointwise
public import Idealize.ShloMosaic.Lib.Claim

@[expose] public section

set_option maxRecDepth 16384

noncomputable section

/-!
What the reference for the output projection computes.
-/

open Idealize.ShloMosaic Idealize.ShloMosaic.TcCoe Idealize.SL.Sem

namespace Cert.Reference2Ideal.Value

open Cert.Reference2Ideal Cert.Reference2Ideal.Gen

variable (m : (ℓ : Loc nD τ sig) → Buf (Elt Ideal) ℓ) (c : Dev nD)

/-! The arguments, by row and column. -/

def X (i : Fin 8192) (j : Fin 1024) : EReal := m ((c.tc : Thread nD τ).loc main_arg0) (ix2 i j)
def A (i : Fin 8192) (j : Fin 512) : EReal := m ((c.tc : Thread nD τ).loc main_arg1) (ix2 i j)
def B (i : Fin 8192) (j : Fin 512) : EReal := m ((c.tc : Thread nD τ).loc main_arg2) (ix2 i j)
def W (i : Fin 1024) (j : Fin 1024) : EReal := m ((c.tc : Thread nD τ).loc main_arg3) (ix2 i j)
def O (j : Fin 1024) : EReal := m ((c.tc : Thread nD τ).loc main_arg4) (ix1 j)
def G (j : Fin 1024) : EReal := m ((c.tc : Thread nD τ).loc main_arg5) (ix1 j)
def H (i : Fin 8192) (j : Fin 1024) : EReal := m ((c.tc : Thread nD τ).loc main_arg6) (ix2 i j)
def D (i : Fin 8192) (j : Fin 1024) : EReal := m ((c.tc : Thread nD τ).loc main_arg7) (ix2 i j)
/-- The layer's input with the projection added. -/
def S : Fin 8192 → Fin 1024 → EReal := OutBwd.sum (X m c) (A m c) (B m c) (W m c) (O m c)
/-- Its gradient. -/
def E : Fin 8192 → Fin 1024 → EReal := OutBwd.dsum (S m c) (H m c) (G m c) (D m c)

theorem dx_at (i : Fin 8192) (j : Fin 1024) : res_main_v46 (F := Ideal) m c (ix2 i j) = E m c i j := by
  pointwise [res_main_v46]
  simp only [Finset.univ_unique, Finset.sum_const, Finset.card_singleton, one_smul]
  rfl

/-- The product that gives the weights' gradient, of any array. -/
def dwOf (z : FVec Ideal S8192x1024 .f32) : FVec Ideal S1024x1024 .f32 :=
  transpose S1024x1024 [1, 0] (Host.dotGeneral (F := Ideal) (φ₁ := .f32) (φ₂ := .f32) dot_S8192x1024_S8192x1024_S1024x1024_0_0_1_1_n_n none z
    (concatenate S8192x1024 1 [⟨S8192x512, extf .f32 (m ((c.tc : Thread nD τ).loc main_arg1)) bitsLt_bf16_f32⟩,
      ⟨S8192x512, extf .f32 (m ((c.tc : Thread nD τ).loc main_arg2)) bitsLt_bf16_f32⟩] concatenates_S8192x512_S8192x512_S8192x1024_d1))
    transposes_S1024x1024_S1024x1024_1_0

theorem dwOf_at (z : FVec Ideal S8192x1024 .f32) (k j : Fin 1024) :
    dwOf m c z (ix2 k j) = OutBwd.dw (A m c) (B m c) (fun i j => z (ix2 i j)) k j := by
  unfold dwOf
  pointwise
  exact Finset.sum_congr rfl fun i _ => mul_comm _ _

/-- The product that gives the projected values' gradient, of any array. -/
def dmixOf (z : FVec Ideal S8192x1024 .f32) : FVec Ideal S8192x1024 .bf16 :=
  truncf .bf16 (Host.dotGeneral (F := Ideal) (φ₁ := .f32) (φ₂ := .f32) dot_S8192x1024_S1024x1024_S8192x1024_1_1_0_0_n_n none z
    (m ((c.tc : Thread nD τ).loc main_arg3))) bitsLt_bf16_f32

theorem dmixOf_at (z : FVec Ideal S8192x1024 .f32) (i : Fin 8192) (k : Fin 1024) :
    dmixOf m c z (ix2 i k) = OutBwd.dmix (fun i j => z (ix2 i j)) (W m c) i k := by
  unfold dmixOf
  pointwise
  rfl

theorem dx_fun : (fun i j => res_main_v46 (F := Ideal) m c (ix2 i j)) = E m c := funext fun i => funext fun j => dx_at m c i j

theorem run_spec (g : Dev nD → PrngReg) :
    θ_run defs (onTc (τ := τ) (main (F := Ideal))) ⟨m, fun _ => 0, g⟩ fun r => ∀ c : Dev nD,
      r.2.mem ((c.tc : Thread nD τ).loc main_v46) = (fun y : S8192x1024.Idx => E m c (y 0) (y 1))
      ∧ r.2.mem ((c.tc : Thread nD τ).loc main_v53) = (fun y : S8192x1024.Idx => OutBwd.dmix (E m c) (W m c) (y 0) (y 1))
      ∧ r.2.mem ((c.tc : Thread nD τ).loc main_v54) = (fun y : S1x1024.Idx => OutBwd.dg (S m c) (H m c) (y 1))
      ∧ r.2.mem ((c.tc : Thread nD τ).loc main_v55) = (fun y : S1x1024.Idx => ∑ i, E m c i (y 1))
      ∧ r.2.mem ((c.tc : Thread nD τ).loc main_v51) = (fun y : S1024x1024.Idx => OutBwd.dw (A m c) (B m c) (E m c) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run _ _ _).mono (fun r h c => ⟨(h c).1.trans ?_, (h c).2.1.trans ?_, (h c).2.2.1.trans ?_, (h c).2.2.2.1.trans ?_, (h c).2.2.2.2.1.trans ?_, (h c).2.2.2.2.2⟩) (run m g)
  · funext y
    idx_vars y
    exact dx_at m c y0 y1
  · funext y
    idx_vars y
    exact (dmixOf_at m c (res_main_v46 m c) y0 y1).trans (by rw [dx_fun])
  · funext y
    idx_vars y
    pointwise
    simp only [Finset.univ_unique, Finset.sum_const, Finset.card_singleton, one_smul]
    exact Finset.sum_congr rfl fun i _ => mul_comm _ _
  · funext y
    idx_vars y
    pointwise [res_main_v55]
    simp only [Finset.univ_unique, Finset.sum_const, Finset.card_singleton, one_smul]
    rfl
  · funext y
    idx_vars y
    exact (dwOf_at m c (res_main_v46 m c) y0 y1).trans (by rw [dx_fun])

end Cert.Reference2Ideal.Value

end
-- ==== Proof.OutBwdEq.lean ====
module

public import proofs.«01_k».proof.Defs
public import proofs.«01_k».proof.Proof.Gen.Kernel2Ideal
public import proofs.«01_k».proof.Proof.Gen.Kernel2Ideal.Frame
public import proofs.«01_k».proof.Proof.Gen.Reference2Ideal
public import proofs.«01_k».proof.Proof.OutBwd
public import proofs.«01_k».proof.Proof.OutBwdRef
public import Idealize.ShloMosaic.Lib.Claim

@[expose] public section

set_option maxRecDepth 16384

noncomputable section

/-!
The kernel for the output projection and its reference end with the same results.
-/

open Idealize.ShloMosaic Idealize.ShloMosaic.TcCoe Idealize.SL.Sem

namespace Cert.Kernel2Ideal.Value

open Cert.Kernel2Ideal Cert.Kernel2Ideal.Gen

variable (m : (ℓ : Loc nD τ sig) → Buf (Elt Ideal) ℓ) (c : Dev nD)

theorem run_spec (g : Dev nD → PrngReg) :
    θ_run defs (onTc (τ := τ) (main (F := Ideal))) ⟨m, fun _ => 0, g⟩ fun r => ∀ c : Dev nD,
      r.2.mem ((c.tc : Thread nD τ).loc main_v10_0) = (fun y : S8192x1024.Idx => E m c (y 0) (y 1))
      ∧ r.2.mem ((c.tc : Thread nD τ).loc main_v10_1) = (fun y : S8192x1024.Idx => OutBwd.dmix (E m c) (W m c) (y 0) (y 1))
      ∧ r.2.mem ((c.tc : Thread nD τ).loc main_v10_2) = (fun y : S1x1024.Idx => OutBwd.dg (S m c) (H m c) (y 1))
      ∧ r.2.mem ((c.tc : Thread nD τ).loc main_v10_3) = (fun y : S1x1024.Idx => ∑ i, E m c i (y 1))
      ∧ r.2.mem ((c.tc : Thread nD τ).loc main_v10_4) = (fun y : S1024x1024.Idx => OutBwd.dw (A m c) (B m c) (E m c) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run _ _ _).mono (fun r h c => ⟨((h.1 c).1 7).trans (final_dx m c), ((h.1 c).1 8).trans (final_dmix m c), ((h.1 c).1 9).trans (final_dg m c), ((h.1 c).1 10).trans (final_db m c), ((h.1 c).1 11).trans (final_dw m c), h.2 c⟩) (θ_run_and (run_main m g) (unchanged m g))

end Cert.Kernel2Ideal.Value

namespace Cert.Proof

/-- The reference's frame: its arguments end unchanged, and it has no semaphore. -/
theorem out_bwd_ref_frame : Cert.quiescent_Reference2Ideal := fun m ρ _ =>
  (θ_run Cert.Reference2Ideal.defs _ _).mono (fun r h => ⟨fun c => (h c).2.2.2.2.2, sem_eq_zero_of_no_sems (by decide) r.2⟩)
    (Cert.Reference2Ideal.Value.run_spec m ρ)

section

variable (m : (ℓ : Loc Cert.Kernel2Ideal.nD Cert.Kernel2Ideal.τ Cert.Kernel2Ideal.sig) → Buf (Elt Ideal) ℓ)
  (m' : (ℓ : Loc Cert.Reference2Ideal.nD Cert.Reference2Ideal.τ Cert.Reference2Ideal.sig) → Buf (Elt Ideal) ℓ)
  (c : Dev Cert.Kernel2Ideal.nD)

theorem out_bwd_X (h : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)) :
    Cert.Reference2Ideal.Value.X m' c = Cert.Kernel2Ideal.Value.X m c := by
  unfold Cert.Reference2Ideal.Value.X Cert.Kernel2Ideal.Value.X; rw [h]

theorem out_bwd_A (h : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) :
    Cert.Reference2Ideal.Value.A m' c = Cert.Kernel2Ideal.Value.A m c := by
  unfold Cert.Reference2Ideal.Value.A Cert.Kernel2Ideal.Value.A; rw [h]

theorem out_bwd_B (h : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) :
    Cert.Reference2Ideal.Value.B m' c = Cert.Kernel2Ideal.Value.B m c := by
  unfold Cert.Reference2Ideal.Value.B Cert.Kernel2Ideal.Value.B; rw [h]

theorem out_bwd_W (h : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) :
    Cert.Reference2Ideal.Value.W m' c = Cert.Kernel2Ideal.Value.W m c := by
  unfold Cert.Reference2Ideal.Value.W Cert.Kernel2Ideal.Value.W; rw [h]

theorem out_bwd_O (h : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) :
    Cert.Reference2Ideal.Value.O m' c = Cert.Kernel2Ideal.Value.O m c := by
  unfold Cert.Reference2Ideal.Value.O Cert.Kernel2Ideal.Value.O; rw [h]

theorem out_bwd_G (h : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) :
    Cert.Reference2Ideal.Value.G m' c = Cert.Kernel2Ideal.Value.G m c := by
  unfold Cert.Reference2Ideal.Value.G Cert.Kernel2Ideal.Value.G; rw [h]

theorem out_bwd_H (h : m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) :
    Cert.Reference2Ideal.Value.H m' c = Cert.Kernel2Ideal.Value.H m c := by
  unfold Cert.Reference2Ideal.Value.H Cert.Kernel2Ideal.Value.H; rw [h]

theorem out_bwd_D (h : m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) :
    Cert.Reference2Ideal.Value.D m' c = Cert.Kernel2Ideal.Value.D m c := by
  unfold Cert.Reference2Ideal.Value.D Cert.Kernel2Ideal.Value.D; rw [h]

end

/-- The two ways to the gradients of the output projection and the normalisation after it agree. -/
theorem out_bwd : Cert.algebraic_Kernel2Ideal_Reference2Ideal := by
  intro m g m' g' _ hagree
  refine ⟨_, _, _, _, _, Cert.Kernel2Ideal.Value.run_spec m g, ?_⟩
  refine (θ_run Cert.Reference2Ideal.defs _ _).mono (fun r h c => ?_) (Cert.Reference2Ideal.Value.run_spec m' g')
  obtain ⟨h0, h1, h2, h3, h4, h5, h6, h7⟩ := hagree c
  have eX := out_bwd_X m m' c h0
  have eA := out_bwd_A m m' c h1
  have eB := out_bwd_B m m' c h2
  have eW := out_bwd_W m m' c h3
  have eO := out_bwd_O m m' c h4
  have eG := out_bwd_G m m' c h5
  have eH := out_bwd_H m m' c h6
  have eD := out_bwd_D m m' c h7
  have eS : Cert.Reference2Ideal.Value.S m' c = Cert.Kernel2Ideal.Value.S m c := by
    unfold Cert.Reference2Ideal.Value.S Cert.Kernel2Ideal.Value.S; rw [eX, eA, eB, eW, eO]
  have eE : Cert.Reference2Ideal.Value.E m' c = Cert.Kernel2Ideal.Value.E m c := by
    unfold Cert.Reference2Ideal.Value.E Cert.Kernel2Ideal.Value.E; rw [eS, eH, eG, eD]
  have hc := h c
  simp only [eX, eA, eB, eW, eO, eG, eH, eD, eS, eE] at hc
  exact hc

end Cert.Proof

end
-- ==== Proof.DwSpec.lean ====
module

public import Idealize.ShloMosaic.Lib.Pointwise

@[expose] public section

set_option maxRecDepth 16384

noncomputable section

/-!
The gradient of a weight matrix that a product uses, entry by entry: a sum over all tokens.
-/

namespace Cert.Dw

/-- The entry of the gradient at a column of `u` and a column of `v`. -/
def grad {n : Nat} (u : Fin 8192 → Fin n → EReal) (v : Fin 8192 → Fin 1024 → EReal) (k : Fin n) (j : Fin 1024) : EReal := ∑ i, u i k * v i j

/-- A sum over all tokens is the sum over the first half and the sum over the second. -/
theorem halves (f : Fin 8192 → EReal) :
    (0 + ∑ a : Fin 4096, f ⟨a.val, by omega⟩) + ∑ a : Fin 4096, f ⟨4096 + a.val, by omega⟩ = ∑ i, f i := by
  rw [zero_add]
  exact (Fin.sum_univ_add (a := 4096) (b := 4096) f).symm

end Cert.Dw

end
-- ==== Proof.DwUp.lean ====
module

public import proofs.«01_k».proof.Proof.DwSpec
public import proofs.«01_k».proof.Proof.Gen.Kernel3Ideal.Value
public import Idealize.ShloMosaic.Lib.Pointwise
public import Idealize.ShloMosaic.Lib.Claim
public import Idealize.ShloMosaic.Lib.Pipeline.ValueKit
public import Idealize.ShloMosaic.Lib.Pipeline.ReadBack

@[expose] public section

set_option maxRecDepth 16384

noncomputable section

/-!
What the result array of the kernel for the gradient of the up-projection's weights holds after its run.
-/

open Idealize.ShloMosaic Idealize.ShloMosaic.TcCoe Idealize.SL.Sem

namespace Cert.Kernel3Ideal.Value

open Cert.Kernel3Ideal Cert.Kernel3Ideal.Gen

variable (m : (ℓ : Loc nD τ sig) → Buf (Elt Ideal) ℓ) (c : Dev nD)

/-- Which block each window shows at a point. -/
theorem idx : ∀ t : Fin cfg0.N, win0_0.index t = ![t.val / 2, t.val % 2, 0] ∧ win0_1.index t = ![0, t.val % 2, 0] ∧ win0_2.index t = ![t.val / 2, 0, 0] :=
  (by decide +kernel : ∀ t : Fin grid0.N, _)

theorem lt (t : Fin cfg0.N) : t.val < 16 := lt_of_lt_of_eq t.isLt N_0

/-- The token that is row `a` of the tokens' block at a point. -/
def row (t : Fin cfg0.N) (a : Fin 4096) : Fin 8192 := ⟨t.val % 2 * 4096 + a.val, by omega⟩

/-- The column that is column `k` of chunk `q`. -/
def col (q : Fin 8) (k : Fin 704) : Fin 5632 := ⟨q.val * 704 + k.val, by omega⟩

/-- The chunk of columns at a point. -/
def chunk (t : Fin cfg0.N) : Fin 8 := ⟨t.val / 2, by have := lt t; omega⟩

/-! The arguments, by row and column. -/

def U (i : Fin 8192) (j : Fin 5632) : EReal := m ((c.tc : Thread nD τ).loc main_arg1) (ix2 i j)
def H (i : Fin 8192) (j : Fin 1024) : EReal := m ((c.tc : Thread nD τ).loc main_arg0) (ix2 i j)

/-! What the input windows show. -/

theorem in0 (t : Fin cfg0.N) (o : Fin 1) (a : Fin 4096) (k : Fin 704) : iblk m c 0 t (ix3 o a k) = U m c (row t a) (col (chunk t) k) := by
  unfold U row col chunk; blk_simp [iblk, idx t]; entry_read; pointwise; blk_ext [idx t]
theorem in1 (t : Fin cfg0.N) (o : Fin 1) (a : Fin 4096) (k : Fin 1024) : iblk m c 1 t (ix3 o a k) = H m c (row t a) k := by
  unfold H row; blk_simp [iblk, idx t]; entry_read; pointwise; blk_ext [idx t]

/-- What a point adds. -/
def term (t : Fin cfg0.N) (k : Fin 704) (j : Fin 1024) : EReal := ∑ a : Fin 4096, U m c (row t a) (col (chunk t) k) * H m c (row t a) j

theorem out_A (t : Fin cfg0.N) (o : Fin 1) (k : Fin 704) (j : Fin 1024) (h : t.val % 2 = 0) :
    outsAt0 m c t.val t.isLt (ix3 o k j) = 0 + term m c t k j := by
  rw [outsAt0_A m c t h]; frame_out
  pointwise [k0_pay1, k0_pay2]
  simp only [in0, in1]
  rfl

theorem out_B (t : Fin cfg0.N) (o : Fin 1) (k : Fin 704) (j : Fin 1024) (h : ¬t.val % 2 = 0) :
    outsAt0 m c t.val t.isLt (ix3 o k j)
      = outsAt0 m c (t.val - 1) (Nat.lt_of_le_of_lt (Nat.sub_le _ _) t.isLt) (ix3 o k j) + term m c t k j := by
  obtain rfl : o = 0 := Subsingleton.elim _ _
  rw [outsAt0_B m c t h]; frame_out
  pointwise [k0_pay2]
  simp only [in0, in1]
  rfl

/-- After the second point of a chunk the block holds the chunk's gradient. -/
theorem block (t : Fin cfg0.N) (o : Fin 1) (k : Fin 704) (j : Fin 1024) (h : t.val % 2 = 1) :
    outsAt0 m c t.val t.isLt (ix3 o k j) = Dw.grad (U m c) (H m c) (col (chunk t) k) j := by
  have e := lt t
  let p : Fin cfg0.N := ⟨t.val - 1, Nat.lt_of_le_of_lt (Nat.sub_le _ _) t.isLt⟩
  have hp : p.val % 2 = 0 := by show (t.val - 1) % 2 = 0; omega
  have hc : chunk p = chunk t := by ext; show (t.val - 1) / 2 = t.val / 2; omega
  rw [out_B m c t o k j (by omega), out_A m c p o k j hp, term, term, hc]
  have r0 : ∀ a : Fin 4096, row p a = ⟨a.val, by omega⟩ := fun a => by ext; show p.val % 2 * 4096 + a.val = a.val; omega
  have r1 : ∀ a : Fin 4096, row t a = ⟨4096 + a.val, by omega⟩ := fun a => by ext; show t.val % 2 * 4096 + a.val = 4096 + a.val; omega
  simp only [r0, r1]
  exact Dw.halves fun i => U m c i (col (chunk t) k) * H m c i j

theorem final : (dats m 0 c).arrAt 2 cfg0.N = fun y : S8x704x1024.Idx => Dw.grad (U m c) (H m c) (col (y 0) (y 1)) (y 2) := by
  refine (dats m 0 c).arrAt_eq_of_covers 2 _ (by decide +kernel) fun t hf y => ?_
  have h : t.val % 2 = 1 := (by decide +kernel : ∀ t : Fin grid0.N, (cfg0.win 2).flush t = true → t.val % 2 = 1) t hf
  blk_simp
  rw [after0_2]
  obtain ⟨o, k, j, rfl⟩ : ∃ (o : Fin 1) (k : Fin 704) (j : Fin 1024), y = ix3 o k j :=
    ⟨y 0, y 1, y 2, by funext i; match i with | 0 => rfl | 1 => rfl | 2 => rfl⟩
  refine (block m c t o k j h).trans ?_
  have e : ((cfg0.win 2).blk t).view.emb (ix3 o k j) = ix3 (chunk t) k j := by unfold chunk; blk_ext [idx t]
  simp only [e]; rfl

end Cert.Kernel3Ideal.Value

end
-- ==== Proof.DwUpRef.lean ====
module

public import proofs.«01_k».proof.Proof.DwSpec
public import proofs.«01_k».proof.Proof.Gen.Reference3Ideal.Run
public import Idealize.ShloMosaic.Lib.Pointwise
public import Idealize.ShloMosaic.Lib.Claim

@[expose] public section

set_option maxRecDepth 16384

noncomputable section

/-!
What the reference for the gradient of the up-projection's weights computes.
-/

open Idealize.ShloMosaic Idealize.ShloMosaic.TcCoe Idealize.SL.Sem

namespace Cert.Reference3Ideal.Value

open Cert.Reference3Ideal Cert.Reference3Ideal.Gen

variable (m : (ℓ : Loc nD τ sig) → Buf (Elt Ideal) ℓ) (c : Dev nD)

/-! The arguments, by row and column. -/

def U (i : Fin 8192) (j : Fin 5632) : EReal := m ((c.tc : Thread nD τ).loc main_arg1) (ix2 i j)
def H (i : Fin 8192) (j : Fin 1024) : EReal := m ((c.tc : Thread nD τ).loc main_arg0) (ix2 i j)

/-- The column that is column `k` of chunk `q`. -/
def col (q : Fin 8) (k : Fin 704) : Fin 5632 := ⟨q.val * 704 + k.val, by omega⟩

theorem run_spec (g : Dev nD → PrngReg) :
    θ_run defs (onTc (τ := τ) (main (F := Ideal))) ⟨m, fun _ => 0, g⟩ fun r => ∀ c : Dev nD,
      r.2.mem ((c.tc : Thread nD τ).loc main_v7) = (fun y : S8x704x1024.Idx => Dw.grad (U m c) (H m c) (col (y 0) (y 1)) (y 2))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨(h c).1.trans ?_, (h c).2⟩) (run m g)
  funext y
  idx_vars y
  pointwise
  rfl

end Cert.Reference3Ideal.Value

end
-- ==== Proof.DwUpEq.lean ====
module

public import proofs.«01_k».proof.Defs
public import proofs.«01_k».proof.Proof.Gen.Kernel3Ideal
public import proofs.«01_k».proof.Proof.Gen.Kernel3Ideal.Frame
public import proofs.«01_k».proof.Proof.Gen.Reference3Ideal
public import proofs.«01_k».proof.Proof.DwUp
public import proofs.«01_k».proof.Proof.DwUpRef
public import Idealize.ShloMosaic.Lib.Claim

@[expose] public section

set_option maxRecDepth 16384

noncomputable section

/-!
The kernel for the gradient of the up-projection's weights and its reference end with the same result.
-/

open Idealize.ShloMosaic Idealize.ShloMosaic.TcCoe Idealize.SL.Sem

namespace Cert.Kernel3Ideal.Value

open Cert.Kernel3Ideal Cert.Kernel3Ideal.Gen

variable (m : (ℓ : Loc nD τ sig) → Buf (Elt Ideal) ℓ) (c : Dev nD)

theorem run_spec (g : Dev nD → PrngReg) :
    θ_run defs (onTc (τ := τ) (main (F := Ideal))) ⟨m, fun _ => 0, g⟩ fun r => ∀ c : Dev nD,
      r.2.mem ((c.tc : Thread nD τ).loc main_v3) = (fun y : S8x704x1024.Idx => Dw.grad (U m c) (H m c) (col (y 0) (y 1)) (y 2))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨((h.1 c).1 2).trans (final m c), h.2 c⟩) (θ_run_and (run_main m g) (unchanged m g))

end Cert.Kernel3Ideal.Value

namespace Cert.Proof

/-- The reference's frame: its arguments end unchanged, and it has no semaphore. -/
theorem dw_up_ref_frame : Cert.quiescent_Reference3Ideal := fun m ρ _ =>
  (θ_run Cert.Reference3Ideal.defs _ _).mono (fun r h => ⟨fun c => (h c).2, sem_eq_zero_of_no_sems (by decide) r.2⟩)
    (Cert.Reference3Ideal.Value.run_spec m ρ)

section

variable (m : (ℓ : Loc Cert.Kernel3Ideal.nD Cert.Kernel3Ideal.τ Cert.Kernel3Ideal.sig) → Buf (Elt Ideal) ℓ)
  (m' : (ℓ : Loc Cert.Reference3Ideal.nD Cert.Reference3Ideal.τ Cert.Reference3Ideal.sig) → Buf (Elt Ideal) ℓ)
  (c : Dev Cert.Kernel3Ideal.nD)

theorem dw_up_H (h : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)) :
    Cert.Reference3Ideal.Value.H m' c = Cert.Kernel3Ideal.Value.H m c := by
  unfold Cert.Reference3Ideal.Value.H Cert.Kernel3Ideal.Value.H; rw [h]

theorem dw_up_U (h : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) :
    Cert.Reference3Ideal.Value.U m' c = Cert.Kernel3Ideal.Value.U m c := by
  unfold Cert.Reference3Ideal.Value.U Cert.Kernel3Ideal.Value.U; rw [h]

end

/-- The two ways to the gradient of the up-projection's weights agree. -/
theorem dw_up : Cert.algebraic_Kernel3Ideal_Reference3Ideal := by
  intro m g m' g' _ hagree
  refine ⟨_, Cert.Kernel3Ideal.Value.run_spec m g, ?_⟩
  refine (θ_run Cert.Reference3Ideal.defs _ _).mono (fun r h c => ?_) (Cert.Reference3Ideal.Value.run_spec m' g')
  obtain ⟨h0, h1⟩ := hagree c
  have eH := dw_up_H m m' c h0
  have eU := dw_up_U m m' c h1
  have hc := h c
  simp only [eH, eU] at hc
  exact hc

end Cert.Proof

end
-- ==== Proof.DwDown.lean ====
module

public import proofs.«01_k».proof.Proof.DwSpec
public import proofs.«01_k».proof.Proof.Gen.Kernel4Ideal.Value
public import Idealize.ShloMosaic.Lib.Pointwise
public import Idealize.ShloMosaic.Lib.Claim
public import Idealize.ShloMosaic.Lib.Pipeline.ValueKit
public import Idealize.ShloMosaic.Lib.Pipeline.ReadBack

@[expose] public section

set_option maxRecDepth 16384

noncomputable section

/-!
What the result array of the kernel for the gradient of the down-projection's weights holds after its run.
-/

open Idealize.ShloMosaic Idealize.ShloMosaic.TcCoe Idealize.SL.Sem

namespace Cert.Kernel4Ideal.Value

open Cert.Kernel4Ideal Cert.Kernel4Ideal.Gen

variable (m : (ℓ : Loc nD τ sig) → Buf (Elt Ideal) ℓ) (c : Dev nD)

/-- Which block each window shows at a point. -/
theorem idx : ∀ t : Fin cfg0.N, win0_0.index t = ![t.val / 2, t.val % 2, 0] ∧ win0_1.index t = ![0, t.val % 2, 0] ∧ win0_2.index t = ![t.val / 2, 0, 0] :=
  (by decide +kernel : ∀ t : Fin grid0.N, _)

theorem lt (t : Fin cfg0.N) : t.val < 8 := lt_of_lt_of_eq t.isLt N_0

/-- The token that is row `a` of the tokens' block at a point. -/
def row (t : Fin cfg0.N) (a : Fin 4096) : Fin 8192 := ⟨t.val % 2 * 4096 + a.val, by omega⟩

/-- The column that is column `k` of chunk `q`. -/
def col (q : Fin 4) (k : Fin 704) : Fin 2816 := ⟨q.val * 704 + k.val, by omega⟩

/-- The chunk of columns at a point. -/
def chunk (t : Fin cfg0.N) : Fin 4 := ⟨t.val / 2, by have := lt t; omega⟩

/-! The arguments, by row and column. -/

def U (i : Fin 8192) (j : Fin 2816) : EReal := m ((c.tc : Thread nD τ).loc main_arg0) (ix2 i j)
def H (i : Fin 8192) (j : Fin 1024) : EReal := m ((c.tc : Thread nD τ).loc main_arg1) (ix2 i j)

/-! What the input windows show. -/

theorem in0 (t : Fin cfg0.N) (o : Fin 1) (a : Fin 4096) (k : Fin 704) : iblk m c 0 t (ix3 o a k) = U m c (row t a) (col (chunk t) k) := by
  unfold U row col chunk; blk_simp [iblk, idx t]; entry_read; pointwise; blk_ext [idx t]
theorem in1 (t : Fin cfg0.N) (o : Fin 1) (a : Fin 4096) (k : Fin 1024) : iblk m c 1 t (ix3 o a k) = H m c (row t a) k := by
  unfold H row; blk_simp [iblk, idx t]; entry_read; pointwise; blk_ext [idx t]

/-- What a point adds. -/
def term (t : Fin cfg0.N) (k : Fin 704) (j : Fin 1024) : EReal := ∑ a : Fin 4096, U m c (row t a) (col (chunk t) k) * H m c (row t a) j

theorem out_A (t : Fin cfg0.N) (o : Fin 1) (k : Fin 704) (j : Fin 1024) (h : t.val % 2 = 0) :
    outsAt0 m c t.val t.isLt (ix3 o k j) = 0 + term m c t k j := by
  rw [outsAt0_A m c t h]; frame_out
  pointwise [k0_pay1, k0_pay2]
  simp only [in0, in1]
  rfl

theorem out_B (t : Fin cfg0.N) (o : Fin 1) (k : Fin 704) (j : Fin 1024) (h : ¬t.val % 2 = 0) :
    outsAt0 m c t.val t.isLt (ix3 o k j)
      = outsAt0 m c (t.val - 1) (Nat.lt_of_le_of_lt (Nat.sub_le _ _) t.isLt) (ix3 o k j) + term m c t k j := by
  obtain rfl : o = 0 := Subsingleton.elim _ _
  rw [outsAt0_B m c t h]; frame_out
  pointwise [k0_pay2]
  simp only [in0, in1]
  rfl

/-- After the second point of a chunk the block holds the chunk's gradient. -/
theorem block (t : Fin cfg0.N) (o : Fin 1) (k : Fin 704) (j : Fin 1024) (h : t.val % 2 = 1) :
    outsAt0 m c t.val t.isLt (ix3 o k j) = Dw.grad (U m c) (H m c) (col (chunk t) k) j := by
  have e := lt t
  let p : Fin cfg0.N := ⟨t.val - 1, Nat.lt_of_le_of_lt (Nat.sub_le _ _) t.isLt⟩
  have hp : p.val % 2 = 0 := by show (t.val - 1) % 2 = 0; omega
  have hc : chunk p = chunk t := by ext; show (t.val - 1) / 2 = t.val / 2; omega
  rw [out_B m c t o k j (by omega), out_A m c p o k j hp, term, term, hc]
  have r0 : ∀ a : Fin 4096, row p a = ⟨a.val, by omega⟩ := fun a => by ext; show p.val % 2 * 4096 + a.val = a.val; omega
  have r1 : ∀ a : Fin 4096, row t a = ⟨4096 + a.val, by omega⟩ := fun a => by ext; show t.val % 2 * 4096 + a.val = 4096 + a.val; omega
  simp only [r0, r1]
  exact Dw.halves fun i => U m c i (col (chunk t) k) * H m c i j

theorem final : (dats m 0 c).arrAt 2 cfg0.N = fun y : S4x704x1024.Idx => Dw.grad (U m c) (H m c) (col (y 0) (y 1)) (y 2) := by
  refine (dats m 0 c).arrAt_eq_of_covers 2 _ (by decide +kernel) fun t hf y => ?_
  have h : t.val % 2 = 1 := (by decide +kernel : ∀ t : Fin grid0.N, (cfg0.win 2).flush t = true → t.val % 2 = 1) t hf
  blk_simp
  rw [after0_2]
  obtain ⟨o, k, j, rfl⟩ : ∃ (o : Fin 1) (k : Fin 704) (j : Fin 1024), y = ix3 o k j :=
    ⟨y 0, y 1, y 2, by funext i; match i with | 0 => rfl | 1 => rfl | 2 => rfl⟩
  refine (block m c t o k j h).trans ?_
  have e : ((cfg0.win 2).blk t).view.emb (ix3 o k j) = ix3 (chunk t) k j := by unfold chunk; blk_ext [idx t]
  simp only [e]; rfl

end Cert.Kernel4Ideal.Value

end
-- ==== Proof.DwDownRef.lean ====
module

public import proofs.«01_k».proof.Proof.DwSpec
public import proofs.«01_k».proof.Proof.Gen.Reference4Ideal.Run
public import Idealize.ShloMosaic.Lib.Pointwise
public import Idealize.ShloMosaic.Lib.Claim

@[expose] public section

set_option maxRecDepth 16384

noncomputable section

/-!
What the reference for the gradient of the down-projection's weights computes.
-/

open Idealize.ShloMosaic Idealize.ShloMosaic.TcCoe Idealize.SL.Sem

namespace Cert.Reference4Ideal.Value

open Cert.Reference4Ideal Cert.Reference4Ideal.Gen

variable (m : (ℓ : Loc nD τ sig) → Buf (Elt Ideal) ℓ) (c : Dev nD)

/-! The arguments, by row and column. -/

def U (i : Fin 8192) (j : Fin 2816) : EReal := m ((c.tc : Thread nD τ).loc main_arg0) (ix2 i j)
def H (i : Fin 8192) (j : Fin 1024) : EReal := m ((c.tc : Thread nD τ).loc main_arg1) (ix2 i j)

/-- The column that is column `k` of chunk `q`. -/
def col (q : Fin 4) (k : Fin 704) : Fin 2816 := ⟨q.val * 704 + k.val, by omega⟩

theorem run_spec (g : Dev nD → PrngReg) :
    θ_run defs (onTc (τ := τ) (main (F := Ideal))) ⟨m, fun _ => 0, g⟩ fun r => ∀ c : Dev nD,
      r.2.mem ((c.tc : Thread nD τ).loc main_v6) = (fun y : S4x704x1024.Idx => Dw.grad (U m c) (H m c) (col (y 0) (y 1)) (y 2))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨(h c).1.trans ?_, (h c).2⟩) (run m g)
  funext y
  idx_vars y
  pointwise
  exact Finset.sum_congr rfl fun i _ => mul_comm _ _

end Cert.Reference4Ideal.Value

end
-- ==== Proof.DwDownEq.lean ====
module

public import proofs.«01_k».proof.Defs
public import proofs.«01_k».proof.Proof.Gen.Kernel4Ideal
public import proofs.«01_k».proof.Proof.Gen.Kernel4Ideal.Frame
public import proofs.«01_k».proof.Proof.Gen.Reference4Ideal
public import proofs.«01_k».proof.Proof.DwDown
public import proofs.«01_k».proof.Proof.DwDownRef
public import Idealize.ShloMosaic.Lib.Claim

@[expose] public section

set_option maxRecDepth 16384

noncomputable section

/-!
The kernel for the gradient of the down-projection's weights and its reference end with the same result.
-/

open Idealize.ShloMosaic Idealize.ShloMosaic.TcCoe Idealize.SL.Sem

namespace Cert.Kernel4Ideal.Value

open Cert.Kernel4Ideal Cert.Kernel4Ideal.Gen

variable (m : (ℓ : Loc nD τ sig) → Buf (Elt Ideal) ℓ) (c : Dev nD)

theorem run_spec (g : Dev nD → PrngReg) :
    θ_run defs (onTc (τ := τ) (main (F := Ideal))) ⟨m, fun _ => 0, g⟩ fun r => ∀ c : Dev nD,
      r.2.mem ((c.tc : Thread nD τ).loc main_v3) = (fun y : S4x704x1024.Idx => Dw.grad (U m c) (H m c) (col (y 0) (y 1)) (y 2))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨((h.1 c).1 2).trans (final m c), h.2 c⟩) (θ_run_and (run_main m g) (unchanged m g))

end Cert.Kernel4Ideal.Value

namespace Cert.Proof

/-- The reference's frame: its arguments end unchanged, and it has no semaphore. -/
theorem dw_down_ref_frame : Cert.quiescent_Reference4Ideal := fun m ρ _ =>
  (θ_run Cert.Reference4Ideal.defs _ _).mono (fun r h => ⟨fun c => (h c).2, sem_eq_zero_of_no_sems (by decide) r.2⟩)
    (Cert.Reference4Ideal.Value.run_spec m ρ)

section

variable (m : (ℓ : Loc Cert.Kernel4Ideal.nD Cert.Kernel4Ideal.τ Cert.Kernel4Ideal.sig) → Buf (Elt Ideal) ℓ)
  (m' : (ℓ : Loc Cert.Reference4Ideal.nD Cert.Reference4Ideal.τ Cert.Reference4Ideal.sig) → Buf (Elt Ideal) ℓ)
  (c : Dev Cert.Kernel4Ideal.nD)

theorem dw_down_U (h : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)) :
    Cert.Reference4Ideal.Value.U m' c = Cert.Kernel4Ideal.Value.U m c := by
  unfold Cert.Reference4Ideal.Value.U Cert.Kernel4Ideal.Value.U; rw [h]

theorem dw_down_H (h : m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) :
    Cert.Reference4Ideal.Value.H m' c = Cert.Kernel4Ideal.Value.H m c := by
  unfold Cert.Reference4Ideal.Value.H Cert.Kernel4Ideal.Value.H; rw [h]

end

/-- The two ways to the gradient of the down-projection's weights agree. -/
theorem dw_down : Cert.algebraic_Kernel4Ideal_Reference4Ideal := by
  intro m g m' g' _ hagree
  refine ⟨_, Cert.Kernel4Ideal.Value.run_spec m g, ?_⟩
  refine (θ_run Cert.Reference4Ideal.defs _ _).mono (fun r h c => ?_) (Cert.Reference4Ideal.Value.run_spec m' g')
  obtain ⟨h0, h1⟩ := hagree c
  have eU := dw_down_U m m' c h0
  have eH := dw_down_H m m' c h1
  have hc := h c
  simp only [eU, eH] at hc
  exact hc

end Cert.Proof

end
-- ==== Proof.ProjSpec.lean ====
module

public import proofs.«01_k».proof.Proof.RmsSpec

@[expose] public section

set_option maxRecDepth 16384

noncomputable section

/-!
The layer's two projections in the forward pass, entry by entry.
-/

namespace Cert.Proj

open Idealize.ShloMosaic

/-- A normalised row, times the gain. -/
def norm (x : Fin 8192 → Fin 1024 → EReal) (g : Fin 1024 → EReal) (i : Fin 8192) (j : Fin 1024) : EReal := x i j * Rms.inv (x i) * g j

/-- Where the projections for the attention start. -/
def qcol (k : Fin 768) : Fin 1792 := ⟨k.val, by omega⟩
/-- Where the projections for the convolution start. -/
def ccol (k : Fin 1024) : Fin 1792 := ⟨768 + k.val, by omega⟩

/-- The projection of the normalised rows to column `k`. -/
def proj (x : Fin 8192 → Fin 1024 → EReal) (g : Fin 1024 → EReal) (w : Fin 1024 → Fin 1792 → EReal) (b : Fin 1792 → EReal) (i : Fin 8192)
    (k : Fin 1792) : EReal :=
  ∑ j, norm x g i j * w j k + b k

/-- The layer's input with the projection of the two halves added. -/
def sum (x : Fin 8192 → Fin 1024 → EReal) (a b : Fin 8192 → Fin 512 → EReal) (w : Fin 1024 → Fin 1024 → EReal) (o : Fin 1024 → EReal)
    (i : Fin 8192) (j : Fin 1024) : EReal :=
  x i j + (∑ k : Fin 512, a i k * w ⟨k.val, by omega⟩ j + ∑ k : Fin 512, b i k * w ⟨512 + k.val, by omega⟩ j) + o j

end Cert.Proj

end
-- ==== Proof.InProj.lean ====
module

public import proofs.«01_k».proof.Proof.ProjSpec
public import proofs.«01_k».proof.Proof.Gen.Kernel5Ideal.Value
public import Idealize.ShloMosaic.Lib.Pointwise
public import Idealize.ShloMosaic.Lib.Claim
public import Idealize.ShloMosaic.Lib.Pipeline.ValueKit
public import Idealize.ShloMosaic.Lib.Pipeline.ReadBack

@[expose] public section

set_option maxRecDepth 16384

noncomputable section

/-!
What the result arrays of the kernel for the input projection hold after its run.
-/

open Idealize.ShloMosaic Idealize.ShloMosaic.TcCoe Idealize.SL.Sem

namespace Cert.Kernel5Ideal.Value

open Cert.Kernel5Ideal Cert.Kernel5Ideal.Gen

variable (m : (ℓ : Loc nD τ sig) → Buf (Elt Ideal) ℓ) (c : Dev nD)

/-- Which block each window shows at a point. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![t.val, 0] ∧ win0_6.index t = ![t.val, 0] ∧ win0_7.index t = ![t.val, 0] :=
  (by decide +kernel : ∀ t : Fin grid0.N, _)

/-- The row of the whole array that is row `a` of block `t`. -/
def row (t : Fin cfg0.N) (a : Fin 1024) : Fin 8192 := ⟨t.val * 1024 + a.val, by have := t.isLt; have : cfg0.N = 8 := N_0; omega⟩

/-! The arguments, by row and column. -/

def X (i : Fin 8192) (j : Fin 1024) : EReal := m ((c.tc : Thread nD τ).loc main_arg0) (ix2 i j)
def G (j : Fin 1024) : EReal := m ((c.tc : Thread nD τ).loc main_arg1) (ix1 j)
def W (i : Fin 1024) (j : Fin 1792) : EReal := m ((c.tc : Thread nD τ).loc main_arg2) (ix2 i j)
def B (j : Fin 1792) : EReal := m ((c.tc : Thread nD τ).loc main_arg3) (ix1 j)

/-! What the input windows show. -/

theorem in0 (t : Fin cfg0.N) (a : Fin 1024) (k : Fin 1024) : iblk m c 0 t (ix2 a k) = X m c (row t a) k := by
  unfold X row; blk_ext [iblk, V, idx t]
theorem in1 (t : Fin cfg0.N) (a : Fin 1) (k : Fin 1024) : iblk m c 1 t (ix2 a k) = G m c k := by
  unfold G; blk_simp [iblk, idx t]; entry_read; pointwise; blk_ext [idx t]
theorem in2 (t : Fin cfg0.N) (a : Fin 1792) (k : Fin 1024) : iblk m c 2 t (ix2 a k) = W m c k a := by
  unfold W; blk_simp [iblk, idx t]; entry_read; pointwise; blk_ext [idx t]
theorem in3 (t : Fin cfg0.N) (a : Fin 1) (k : Fin 768) : iblk m c 3 t (ix2 a k) = B m c ⟨k.val, by omega⟩ := by
  unfold B; blk_simp [iblk, idx t]; entry_read; pointwise; blk_ext [idx t]
theorem in4 (t : Fin cfg0.N) (a : Fin 1) (k : Fin 1024) : iblk m c 4 t (ix2 a k) = B m c ⟨768 + k.val, by omega⟩ := by
  unfold B; blk_simp [iblk, idx t]; entry_read; pointwise; blk_ext [idx t]

/-! What the body stores at an entry of block `t`. -/

theorem h_block (t : Fin cfg0.N) (a : Fin 1024) (j : Fin 1024) :
    out0_7 (iblk m c 0 t) (iblk m c 1 t) (iblk m c 2 t) (iblk m c 3 t) (iblk m c 4 t) (ix2 a j) = Proj.norm (X m c) (G m c) (row t a) j := by
  frame_out; pointwise [k0_pay1]; simp only [in0, in1]; rfl

theorem q_block (t : Fin cfg0.N) (a : Fin 1024) (j : Fin 768) :
    out0_5 (iblk m c 0 t) (iblk m c 1 t) (iblk m c 2 t) (iblk m c 3 t) (iblk m c 4 t) (ix2 a j)
      = Proj.proj (X m c) (G m c) (W m c) (B m c) (row t a) (Proj.qcol j) := by
  frame_out; pointwise [k0_pay1, k0_pay2]; simp only [in0, in1, in2, in3]; rfl

theorem c_block (t : Fin cfg0.N) (a : Fin 1024) (j : Fin 1024) :
    out0_6 (iblk m c 0 t) (iblk m c 1 t) (iblk m c 2 t) (iblk m c 3 t) (iblk m c 4 t) (ix2 a j)
      = Proj.proj (X m c) (G m c) (W m c) (B m c) (row t a) (Proj.ccol j) := by
  frame_out; pointwise [k0_pay1, k0_pay3]; simp only [in0, in1, in2, in4]; rfl

theorem final_q : (dats m 0 c).arrAt 5 cfg0.N = fun y : S8192x768.Idx => Proj.proj (X m c) (G m c) (W m c) (B m c) (y 0) (Proj.qcol (y 1)) := by
  refine (dats m 0 c).arrAt_eq_of_covers 5 _ (by decide +kernel) fun t hf y => ?_
  blk_simp
  rw [after0_5]
  obtain ⟨a, j, rfl⟩ : ∃ (a : Fin 1024) (j : Fin 768), y = ix2 a j := ⟨y 0, y 1, by funext i; match i with | 0 => rfl | 1 => rfl⟩
  refine (q_block m c t a j).trans ?_
  have e : ((cfg0.win 5).blk t).view.emb (ix2 a j) = ix2 (row t a) j := by unfold row; blk_ext [idx t]
  simp only [e]; rfl

theorem final_c : (dats m 0 c).arrAt 6 cfg0.N = fun y : S8192x1024.Idx => Proj.proj (X m c) (G m c) (W m c) (B m c) (y 0) (Proj.ccol (y 1)) := by
  refine (dats m 0 c).arrAt_eq_of_covers 6 _ (by decide +kernel) fun t hf y => ?_
  blk_simp
  rw [after0_6]
  obtain ⟨a, j, rfl⟩ : ∃ (a : Fin 1024) (j : Fin 1024), y = ix2 a j := ⟨y 0, y 1, by funext i; match i with | 0 => rfl | 1 => rfl⟩
  refine (c_block m c t a j).trans ?_
  have e : ((cfg0.win 6).blk t).view.emb (ix2 a j) = ix2 (row t a) j := by unfold row; blk_ext [idx t]
  simp only [e]; rfl

theorem final_h : (dats m 0 c).arrAt 7 cfg0.N = fun y : S8192x1024.Idx => Proj.norm (X m c) (G m c) (y 0) (y 1) := by
  refine (dats m 0 c).arrAt_eq_of_covers 7 _ (by decide +kernel) fun t hf y => ?_
  blk_simp
  rw [after0_7]
  obtain ⟨a, j, rfl⟩ : ∃ (a : Fin 1024) (j : Fin 1024), y = ix2 a j := ⟨y 0, y 1, by funext i; match i with | 0 => rfl | 1 => rfl⟩
  refine (h_block m c t a j).trans ?_
  have e : ((cfg0.win 7).blk t).view.emb (ix2 a j) = ix2 (row t a) j := by unfold row; blk_ext [idx t]
  simp only [e]; rfl

end Cert.Kernel5Ideal.Value

end
-- ==== Proof.InProjRef.lean ====
module

public import proofs.«01_k».proof.Proof.ProjSpec
public import proofs.«01_k».proof.Proof.Gen.Reference5Ideal.Run
public import Idealize.ShloMosaic.Lib.Pointwise
public import Idealize.ShloMosaic.Lib.Claim

@[expose] public section

set_option maxRecDepth 16384

noncomputable section

/-!
What the reference for the input projection computes.
-/

open Idealize.ShloMosaic Idealize.ShloMosaic.TcCoe Idealize.SL.Sem

namespace Cert.Reference5Ideal.Value

open Cert.Reference5Ideal Cert.Reference5Ideal.Gen

variable (m : (ℓ : Loc nD τ sig) → Buf (Elt Ideal) ℓ) (c : Dev nD)

/-! The arguments, by row and column. -/

def X (i : Fin 8192) (j : Fin 1024) : EReal := m ((c.tc : Thread nD τ).loc main_arg0) (ix2 i j)
def G (j : Fin 1024) : EReal := m ((c.tc : Thread nD τ).loc main_arg1) (ix1 j)
def W (i : Fin 1024) (j : Fin 1792) : EReal := m ((c.tc : Thread nD τ).loc main_arg2) (ix2 i j)
def B (j : Fin 1792) : EReal := m ((c.tc : Thread nD τ).loc main_arg3) (ix1 j)

theorem run_spec (g : Dev nD → PrngReg) :
    θ_run defs (onTc (τ := τ) (main (F := Ideal))) ⟨m, fun _ => 0, g⟩ fun r => ∀ c : Dev nD,
      r.2.mem ((c.tc : Thread nD τ).loc main_v17) = (fun y : S8192x768.Idx => Proj.proj (X m c) (G m c) (W m c) (B m c) (y 0) (Proj.qcol (y 1)))
      ∧ r.2.mem ((c.tc : Thread nD τ).loc main_v18) = (fun y : S8192x1024.Idx => Proj.proj (X m c) (G m c) (W m c) (B m c) (y 0) (Proj.ccol (y 1)))
      ∧ r.2.mem ((c.tc : Thread nD τ).loc main_v19) = (fun y : S8192x1024.Idx => Proj.norm (X m c) (G m c) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun r h c => ⟨(h c).1.trans ?_, (h c).2.1.trans ?_, (h c).2.2.1.trans ?_, (h c).2.2.2⟩) (run m g)
  · funext y
    idx_vars y
    pointwise
    rfl
  · funext y
    idx_vars y
    pointwise
    rfl
  · funext y
    idx_vars y
    pointwise
    rfl

end Cert.Reference5Ideal.Value

end
-- ==== Proof.InProjEq.lean ====
module

public import proofs.«01_k».proof.Defs
public import proofs.«01_k».proof.Proof.Gen.Kernel5Ideal
public import proofs.«01_k».proof.Proof.Gen.Kernel5Ideal.Frame
public import proofs.«01_k».proof.Proof.Gen.Reference5Ideal
public import proofs.«01_k».proof.Proof.InProj
public import proofs.«01_k».proof.Proof.InProjRef
public import Idealize.ShloMosaic.Lib.Claim

@[expose] public section

set_option maxRecDepth 16384

noncomputable section

/-!
The kernel for the input projection in the forward pass and its reference end with the same results.
-/

open Idealize.ShloMosaic Idealize.ShloMosaic.TcCoe Idealize.SL.Sem

namespace Cert.Kernel5Ideal.Value

open Cert.Kernel5Ideal Cert.Kernel5Ideal.Gen

variable (m : (ℓ : Loc nD τ sig) → Buf (Elt Ideal) ℓ) (c : Dev nD)

theorem run_spec (g : Dev nD → PrngReg) :
    θ_run defs (onTc (τ := τ) (main (F := Ideal))) ⟨m, fun _ => 0, g⟩ fun r => ∀ c : Dev nD,
      r.2.mem ((c.tc : Thread nD τ).loc main_v7_0) = (fun y : S8192x768.Idx => Proj.proj (X m c) (G m c) (W m c) (B m c) (y 0) (Proj.qcol (y 1)))
      ∧ r.2.mem ((c.tc : Thread nD τ).loc main_v7_1) = (fun y : S8192x1024.Idx => Proj.proj (X m c) (G m c) (W m c) (B m c) (y 0) (Proj.ccol (y 1)))
      ∧ r.2.mem ((c.tc : Thread nD τ).loc main_v7_2) = (fun y : S8192x1024.Idx => Proj.norm (X m c) (G m c) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun r h c => ⟨((h.1 c).1 5).trans (final_q m c), ((h.1 c).1 6).trans (final_c m c), ((h.1 c).1 7).trans (final_h m c), h.2 c⟩) (θ_run_and (run_main m g) (unchanged m g))

end Cert.Kernel5Ideal.Value

namespace Cert.Proof

/-- The reference's frame: its arguments end unchanged, and it has no semaphore. -/
theorem in_proj_ref_frame : Cert.quiescent_Reference5Ideal := fun m ρ _ =>
  (θ_run Cert.Reference5Ideal.defs _ _).mono (fun r h => ⟨fun c => (h c).2.2.2, sem_eq_zero_of_no_sems (by decide) r.2⟩)
    (Cert.Reference5Ideal.Value.run_spec m ρ)

section

variable (m : (ℓ : Loc Cert.Kernel5Ideal.nD Cert.Kernel5Ideal.τ Cert.Kernel5Ideal.sig) → Buf (Elt Ideal) ℓ)
  (m' : (ℓ : Loc Cert.Reference5Ideal.nD Cert.Reference5Ideal.τ Cert.Reference5Ideal.sig) → Buf (Elt Ideal) ℓ)
  (c : Dev Cert.Kernel5Ideal.nD)

theorem in_proj_X (h : m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)) :
    Cert.Reference5Ideal.Value.X m' c = Cert.Kernel5Ideal.Value.X m c := by
  unfold Cert.Reference5Ideal.Value.X Cert.Kernel5Ideal.Value.X; rw [h]

theorem in_proj_G (h : m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) :
    Cert.Reference5Ideal.Value.G m' c = Cert.Kernel5Ideal.Value.G m c := by
  unfold Cert.Reference5Ideal.Value.G Cert.Kernel5Ideal.Value.G; rw [h]

theorem in_proj_W (h : m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) :
    Cert.Reference5Ideal.Value.W m' c = Cert.Kernel5Ideal.Value.W m c := by
  unfold Cert.Reference5Ideal.Value.W Cert.Kernel5Ideal.Value.W; rw [h]

theorem in_proj_B (h : m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) :
    Cert.Reference5Ideal.Value.B m' c = Cert.Kernel5Ideal.Value.B m c := by
  unfold Cert.Reference5Ideal.Value.B Cert.Kernel5Ideal.Value.B; rw [h]

end

/-- The two ways to the input projection agree. -/
theorem in_proj : Cert.algebraic_Kernel5Ideal_Reference5Ideal := by
  intro m g m' g' _ hagree
  refine ⟨_, _, _, Cert.Kernel5Ideal.Value.run_spec m g, ?_⟩
  refine (θ_run Cert.Reference5Ideal.defs _ _).mono (fun r h c => ?_) (Cert.Reference5Ideal.Value.run_spec m' g')
  obtain ⟨h0, h1, h2, h3⟩ := hagree c
  have eX := in_proj_X m m' c h0
  have eG := in_proj_G m m' c h1
  have eW := in_proj_W m m' c h2
  have eB := in_proj_B m m' c h3
  have hc := h c
  simp only [eX, eG, eW, eB] at hc
  exact hc

end Cert.Proof

end
-- ==== Proof.OutProj.lean ====
module

public import proofs.«01_k».proof.Proof.ProjSpec
public import proofs.«01_k».proof.Proof.Gen.Kernel6Ideal.Value
public import Idealize.ShloMosaic.Lib.Pointwise
public import Idealize.ShloMosaic.Lib.Claim
public import Idealize.ShloMosaic.Lib.Pipeline.ValueKit
public import Idealize.ShloMosaic.Lib.Pipeline.ReadBack

@[expose] public section

set_option maxRecDepth 16384

noncomputable section

/-!
What the result arrays of the kernel for the output projection hold after its run.
-/

open Idealize.ShloMosaic Idealize.ShloMosaic.TcCoe Idealize.SL.Sem

namespace Cert.Kernel6Ideal.Value

open Cert.Kernel6Ideal Cert.Kernel6Ideal.Gen

variable (m : (ℓ : Loc nD τ sig) → Buf (Elt Ideal) ℓ) (c : Dev nD)

/-- Which block each window shows at a point. -/
theorem idx : ∀ t : Fin cfg0.N, win0_0.index t = ![t.val, 0] ∧ win0_1.index t = ![t.val, 0] ∧ win0_2.index t = ![t.val, 0] ∧ win0_3.index t = ![0, 0]
    ∧ win0_4.index t = ![1, 0] ∧ win0_5.index t = ![0, 0] ∧ win0_6.index t = ![0, 0] ∧ win0_7.index t = ![t.val, 0] ∧ win0_8.index t = ![t.val, 0] :=
  (by decide +kernel : ∀ t : Fin grid0.N, _)

/-- The row of the whole array that is row `a` of block `t`. -/
def row (t : Fin cfg0.N) (a : Fin 1024) : Fin 8192 := ⟨t.val * 1024 + a.val, by have := t.isLt; have : cfg0.N = 8 := N_0; omega⟩

/-! The arguments, by row and column. -/

def X (i : Fin 8192) (j : Fin 1024) : EReal := m ((c.tc : Thread nD τ).loc main_arg0) (ix2 i j)
def A (i : Fin 8192) (j : Fin 512) : EReal := m ((c.tc : Thread nD τ).loc main_arg1) (ix2 i j)
def B (i : Fin 8192) (j : Fin 512) : EReal := m ((c.tc : Thread nD τ).loc main_arg2) (ix2 i j)
def W (i : Fin 1024) (j : Fin 1024) : EReal := m ((c.tc : Thread nD τ).loc main_arg3) (ix2 i j)
def O (j : Fin 1024) : EReal := m ((c.tc : Thread nD τ).loc main_arg4) (ix1 j)
def G (j : Fin 1024) : EReal := m ((c.tc : Thread nD τ).loc main_arg5) (ix1 j)
/-- The layer's input with the projection added. -/
def S : Fin 8192 → Fin 1024 → EReal := Proj.sum (X m c) (A m c) (B m c) (W m c) (O m c)

/-! What the input windows show. -/

theorem in0 (t : Fin cfg0.N) (a : Fin 1024) (k : Fin 1024) : iblk m c 0 t (ix2 a k) = X m c (row t a) k := by
  unfold X row; blk_ext [iblk, V, idx t]
theorem in1 (t : Fin cfg0.N) (a : Fin 1024) (k : Fin 512) : iblk m c 1 t (ix2 a k) = A m c (row t a) k := by
  unfold A row; blk_ext [iblk, V, idx t]
theorem in2 (t : Fin cfg0.N) (a : Fin 1024) (k : Fin 512) : iblk m c 2 t (ix2 a k) = B m c (row t a) k := by
  unfold B row; blk_ext [iblk, V, idx t]
theorem in3 (t : Fin cfg0.N) (a : Fin 512) (k : Fin 1024) : iblk m c 3 t (ix2 a k) = W m c ⟨a.val, by omega⟩ k := by
  unfold W; blk_simp [iblk, idx t]; entry_read; pointwise; blk_ext [idx t]
theorem in4 (t : Fin cfg0.N) (a : Fin 512) (k : Fin 1024) : iblk m c 4 t (ix2 a k) = W m c ⟨512 + a.val, by omega⟩ k := by
  unfold W; blk_simp [iblk, idx t]; entry_read; pointwise; blk_ext [idx t]
theorem in5 (t : Fin cfg0.N) (a : Fin 1) (k : Fin 1024) : iblk m c 5 t (ix2 a k) = O m c k := by
  unfold O; blk_simp [iblk, idx t]; entry_read; pointwise; blk_ext [idx t]
theorem in6 (t : Fin cfg0.N) (a : Fin 1) (k : Fin 1024) : iblk m c 6 t (ix2 a k) = G m c k := by
  unfold G; blk_simp [iblk, idx t]; entry_read; pointwise; blk_ext [idx t]

/-! What the body stores at an entry of block `t`. -/

theorem s_pay (t : Fin cfg0.N) (a : Fin 1024) (j : Fin 1024) :
    k0_pay1 (iblk m c 0 t) (iblk m c 1 t) (iblk m c 3 t) (iblk m c 2 t) (iblk m c 4 t) (iblk m c 5 t) (ix2 a j) = S m c (row t a) j := by
  pointwise [k0_pay1]
  simp only [in0, in1, in2, in3, in4, in5]
  rw [S, Proj.sum, add_assoc (X m c (row t a) j)]

theorem s_block (t : Fin cfg0.N) (a : Fin 1024) (j : Fin 1024) :
    out0_7 (iblk m c 0 t) (iblk m c 1 t) (iblk m c 2 t) (iblk m c 3 t) (iblk m c 4 t) (iblk m c 5 t) (iblk m c 6 t) (ix2 a j) = S m c (row t a) j := by
  frame_out; exact s_pay m c t a j

theorem h_block (t : Fin cfg0.N) (a : Fin 1024) (j : Fin 1024) :
    out0_8 (iblk m c 0 t) (iblk m c 1 t) (iblk m c 2 t) (iblk m c 3 t) (iblk m c 4 t) (iblk m c 5 t) (iblk m c 6 t) (ix2 a j)
      = Proj.norm (S m c) (G m c) (row t a) j := by
  frame_out; pointwise [k0_pay2]; simp only [s_pay, in6]; rfl

theorem final_s : (dats m 0 c).arrAt 7 cfg0.N = fun y : S8192x1024.Idx => S m c (y 0) (y 1) := by
  refine (dats m 0 c).arrAt_eq_of_covers 7 _ (by decide +kernel) fun t hf y => ?_
  blk_simp
  rw [after0_7]
  obtain ⟨a, j, rfl⟩ : ∃ (a : Fin 1024) (j : Fin 1024), y = ix2 a j := ⟨y 0, y 1, by funext i; match i with | 0 => rfl | 1 => rfl⟩
  refine (s_block m c t a j).trans ?_
  have e : ((cfg0.win 7).blk t).view.emb (ix2 a j) = ix2 (row t a) j := by unfold row; blk_ext [idx t]
  simp only [e]; rfl

theorem final_h : (dats m 0 c).arrAt 8 cfg0.N = fun y : S8192x1024.Idx => Proj.norm (S m c) (G m c) (y 0) (y 1) := by
  refine (dats m 0 c).arrAt_eq_of_covers 8 _ (by decide +kernel) fun t hf y => ?_
  blk_simp
  rw [after0_8]
  obtain ⟨a, j, rfl⟩ : ∃ (a : Fin 1024) (j : Fin 1024), y = ix2 a j := ⟨y 0, y 1, by funext i; match i with | 0 => rfl | 1 => rfl⟩
  refine (h_block m c t a j).trans ?_
  have e : ((cfg0.win 8).blk t).view.emb (ix2 a j) = ix2 (row t a) j := by unfold row; blk_ext [idx t]
  simp only [e]; rfl

end Cert.Kernel6Ideal.Value

end
-- ==== Proof.OutProjRef.lean ====
module

public import proofs.«01_k».proof.Proof.ProjSpec
public import proofs.«01_k».proof.Proof.Gen.Reference6Ideal.Run
public import Idealize.ShloMosaic.Lib.Pointwise
public import Idealize.ShloMosaic.Lib.Claim

@[expose] public section

set_option maxRecDepth 16384

noncomputable section

/-!
What the reference for the output projection computes.
-/

open Idealize.ShloMosaic Idealize.ShloMosaic.TcCoe Idealize.SL.Sem

namespace Cert.Reference6Ideal.Value

open Cert.Reference6Ideal Cert.Reference6Ideal.Gen

variable (m : (ℓ : Loc nD τ sig) → Buf (Elt Ideal) ℓ) (c : Dev nD)

/-! The arguments, by row and column. -/

def X (i : Fin 8192) (j : Fin 1024) : EReal := m ((c.tc : Thread nD τ).loc main_arg0) (ix2 i j)
def A (i : Fin 8192) (j : Fin 512) : EReal := m ((c.tc : Thread nD τ).loc main_arg1) (ix2 i j)
def B (i : Fin 8192) (j : Fin 512) : EReal := m ((c.tc : Thread nD τ).loc main_arg2) (ix2 i j)
def W (i : Fin 1024) (j : Fin 1024) : EReal := m ((c.tc : Thread nD τ).loc main_arg3) (ix2 i j)
def O (j : Fin 1024) : EReal := m ((c.tc : Thread nD τ).loc main_arg4) (ix1 j)
def G (j : Fin 1024) : EReal := m ((c.tc : Thread nD τ).loc main_arg5) (ix1 j)
/-- The layer's input with the projection added. -/
def S : Fin 8192 → Fin 1024 → EReal := Proj.sum (X m c) (A m c) (B m c) (W m c) (O m c)

theorem run_spec (g : Dev nD → PrngReg) :
    θ_run defs (onTc (τ := τ) (main (F := Ideal))) ⟨m, fun _ => 0, g⟩ fun r => ∀ c : Dev nD,
      r.2.mem ((c.tc : Thread nD τ).loc main_v7) = (fun y : S8192x1024.Idx => S m c (y 0) (y 1))
      ∧ r.2.mem ((c.tc : Thread nD τ).loc main_v21) = (fun y : S8192x1024.Idx => Proj.norm (S m c) (G m c) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run _ _ _).mono (fun r h c => ⟨(h c).1.trans ?_, (h c).2.1.trans ?_, (h c).2.2⟩) (run m g)
  · funext y
    idx_vars y
    pointwise
    rfl
  · funext y
    idx_vars y
    pointwise
    rfl

end Cert.Reference6Ideal.Value

end
-- ==== Proof.OutProjEq.lean ====
module

public import proofs.«01_k».proof.Defs
public import proofs.«01_k».proof.Proof.Gen.Kernel6Ideal
public import proofs.«01_k».proof.Proof.Gen.Kernel6Ideal.Frame
public import proofs.«01_k».proof.Proof.Gen.Reference6Ideal
public import proofs.«01_k».proof.Proof.OutProj
public import proofs.«01_k».proof.Proof.OutProjRef
public import Idealize.ShloMosaic.Lib.Claim

@[expose] public section

set_option maxRecDepth 16384

noncomputable section

/-!
The kernel for the output projection in the forward pass and its reference end with the same results.
-/

open Idealize.ShloMosaic Idealize.ShloMosaic.TcCoe Idealize.SL.Sem

namespace Cert.Kernel6Ideal.Value

open Cert.Kernel6Ideal Cert.Kernel6Ideal.Gen

variable (m : (ℓ : Loc nD τ sig) → Buf (Elt Ideal) ℓ) (c : Dev nD)

theorem run_spec (g : Dev nD → PrngReg) :
    θ_run defs (onTc (τ := τ) (main (F := Ideal))) ⟨m, fun _ => 0, g⟩ fun r => ∀ c : Dev nD,
      r.2.mem ((c.tc : Thread nD τ).loc main_v3_0) = (fun y : S8192x1024.Idx => S m c (y 0) (y 1))
      ∧ r.2.mem ((c.tc : Thread nD τ).loc main_v3_1) = (fun y : S8192x1024.Idx => Proj.norm (S m c) (G m c) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run _ _ _).mono (fun r h c => ⟨((h.1 c).1 7).trans (final_s m c), ((h.1 c).1 8).trans (final_h m c), h.2 c⟩) (θ_run_and (run_main m g) (unchanged m g))

end Cert.Kernel6Ideal.Value

namespace Cert.Proof

/-- The reference's frame: its arguments end unchanged, and it has no semaphore. -/
theorem out_proj_ref_frame : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run_spec m ρ)

section

variable (m : (ℓ : Loc Cert.Kernel6Ideal.nD Cert.Kernel6Ideal.τ Cert.Kernel6Ideal.sig) → Buf (Elt Ideal) ℓ)
  (m' : (ℓ : Loc Cert.Reference6Ideal.nD Cert.Reference6Ideal.τ Cert.Reference6Ideal.sig) → Buf (Elt Ideal) ℓ)
  (c : Dev Cert.Kernel6Ideal.nD)

theorem out_proj_X (h : m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)) :
    Cert.Reference6Ideal.Value.X m' c = Cert.Kernel6Ideal.Value.X m c := by
  unfold Cert.Reference6Ideal.Value.X Cert.Kernel6Ideal.Value.X; rw [h]

theorem out_proj_A (h : m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) :
    Cert.Reference6Ideal.Value.A m' c = Cert.Kernel6Ideal.Value.A m c := by
  unfold Cert.Reference6Ideal.Value.A Cert.Kernel6Ideal.Value.A; rw [h]

theorem out_proj_B (h : m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) :
    Cert.Reference6Ideal.Value.B m' c = Cert.Kernel6Ideal.Value.B m c := by
  unfold Cert.Reference6Ideal.Value.B Cert.Kernel6Ideal.Value.B; rw [h]

theorem out_proj_W (h : m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) :
    Cert.Reference6Ideal.Value.W m' c = Cert.Kernel6Ideal.Value.W m c := by
  unfold Cert.Reference6Ideal.Value.W Cert.Kernel6Ideal.Value.W; rw [h]

theorem out_proj_O (h : m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) :
    Cert.Reference6Ideal.Value.O m' c = Cert.Kernel6Ideal.Value.O m c := by
  unfold Cert.Reference6Ideal.Value.O Cert.Kernel6Ideal.Value.O; rw [h]

theorem out_proj_G (h : m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) :
    Cert.Reference6Ideal.Value.G m' c = Cert.Kernel6Ideal.Value.G m c := by
  unfold Cert.Reference6Ideal.Value.G Cert.Kernel6Ideal.Value.G; rw [h]

end

/-- The two ways to the output projection and the normalisation after it agree. -/
theorem out_proj : Cert.algebraic_Kernel6Ideal_Reference6Ideal := by
  intro m g m' g' _ hagree
  refine ⟨_, _, Cert.Kernel6Ideal.Value.run_spec m g, ?_⟩
  refine (θ_run Cert.Reference6Ideal.defs _ _).mono (fun r h c => ?_) (Cert.Reference6Ideal.Value.run_spec m' g')
  obtain ⟨h0, h1, h2, h3, h4, h5⟩ := hagree c
  have eX := out_proj_X m m' c h0
  have eA := out_proj_A m m' c h1
  have eB := out_proj_B m m' c h2
  have eW := out_proj_W m m' c h3
  have eO := out_proj_O m m' c h4
  have eG := out_proj_G m m' c h5
  have eS : Cert.Reference6Ideal.Value.S m' c = Cert.Kernel6Ideal.Value.S m c := by
    unfold Cert.Reference6Ideal.Value.S Cert.Kernel6Ideal.Value.S; rw [eX, eA, eB, eW, eO]
  have hc := h c
  simp only [eX, eA, eB, eW, eO, eG, eS] at hc
  exact hc

end Cert.Proof

end
-- ==== Proof.FfnRun.lean ====
module

public import proofs.«01_k».proof.Proof.Gen.Kernel7Ideal.Frame
public import proofs.«01_k».proof.Proof.Gen.Kernel7Ideal.Skeleton

@[expose] public section

set_option maxRecDepth 16384

/-! One point of the feed-forward forward call, whatever the grid point: the inputs' blocks are given back, the block of the first
result is left as the list of pieces the body stores, and every other buffer is left at something. -/

noncomputable section

namespace Cert.Kernel7Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
noncomputable def ffnRun (c : Dev nD) (i : grid0.Coords) (arg2 : Memref sig .tc .vmem S512x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S8x704x1024 .bf16) (harg5 : arg5.IsWhole) (arg6 : Memref sig .tc .vmem S8x3x768 .f32) (harg6 : arg6.IsWhole) (arg7 : Memref sig .tc .vmem S8x1x768 .f32) (harg7 : arg7.IsWhole) (arg8 : Memref sig .tc .vmem S4x704x1024 .bf16) (harg8 : arg8.IsWhole) (arg9 : Memref sig .tc .vmem S2x1x512x768 .bf16) (harg9 : arg9.IsWhole) (arg10 : Memref sig .tc .vmem S2x1x512x768 .bf16) (harg10 : arg10.IsWhole) (arg11 : Memref sig .tc .vmem S1x512x704 .bf16) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S1x1 .f32) (harg14 : arg14.IsWhole) (arg15 : Memref sig .tc .vmem S2x6x520x128 .f32) (harg15 : arg15.IsWhole) (arg16 : Memref sig .tc .vmem S8x8x704 .f32) (harg16 : arg16.IsWhole) (arg17 : Memref sig .tc .vmem S512x768 .bf16) (harg17 : arg17.IsWhole) (arg18 : Memref sig .tc .vmem S512x1024 .f32) (harg18 : arg18.IsWhole)
    (x0 : Vec F S512x1024 .bf16) (x1 : Vec F S512x1024 .f32) (x2 : Vec F S512x1024 .f32) (x3 : Vec F S8x704x1024 .bf16) (x4 : Vec F S8x3x768 .f32) (x5 : Vec F S8x1x768 .f32) (x6 : Vec F S4x704x1024 .bf16) :
    { L7 : List (View.Piece (Elt F) S2x1x512x768 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
          ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, fun E K => ?run⟩
  case run =>
    simp only [cc0_ffn_fwd_eq_skeleton]; unfold cc0_ffn_fwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _, _; isplitr; swap; iexact H8; ipureintro; rfl
    isplitl [H9]; · iexists _, _; isplitr; swap; iexact H9; ipureintro; rfl
    isplitl [H10]; · iexists _, _; isplitr; swap; iexact H10; ipureintro; rfl
    isplitl [H11]; · iexists _, _; isplitr; swap; iexact H11; ipureintro; rfl
    isplitl [H12]; · iexists _, _; isplitr; swap; iexact H12; ipureintro; rfl
    isplitl [H13]; · iexists _, _; isplitr; swap; iexact H13; ipureintro; rfl
    isplitl [H14]; · iexists _, _; isplitr; swap; iexact H14; ipureintro; rfl
    isplitl [H15]; · iexists _, _; isplitr; swap; iexact H15; ipureintro; rfl
    iexists _, _; isplitr; swap; iexact H16; ipureintro; rfl

end Cert.Kernel7Ideal.Gen

end
-- ==== Proof.FfnFrame.lean ====
module

public import proofs.«01_k».proof.Proof.FfnRun
public import Idealize.ShloMosaic.Lib.Claim

@[expose] public section

set_option maxRecDepth 16384

/-! The run of the feed-forward forward call: the staging block of its first result is named point by point, the blocks of the
    other five results and the four scratch buffers are handed from point to point at whatever they hold. -/

noncomputable section

namespace Cert.Kernel7Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0 (t : Fin cfg0.N) : Memref sig .tc .vmem S512x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x704x1024 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S8x3x768 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S8x1x768 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S4x704x1024 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S2x1x512x768 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S2x1x512x768 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x512x704 .bf16 := win0_9.stage (cfg0.slots t 9)
abbrev hs9 (t : Fin cfg0.N) : (ms9 t).IsWhole := hstage0_9 ((cfg0.slots t 9).cast nbuf0_9)
abbrev ms10 (t : Fin cfg0.N) : Memref sig .tc .vmem S512x1024 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S512x1024 .bf16 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x1 .f32 := win0_12.stage (cfg0.slots t 12)
abbrev hs12 (t : Fin cfg0.N) : (ms12 t).IsWhole := hstage0_12 ((cfg0.slots t 12).cast nbuf0_12)

/-- One staging buffer of the first result, whole. -/
abbrev VO7 : View sig .tc .vmem S2x1x512x768 .bf16 := (Memref.whole cc0_stg7_0 : Memref sig .tc .vmem S2x1x512x768 .bf16).view

/-- The run's stores to the first result cover its block: they cut into blocks of 256 rows by 64 columns that tile it. -/
theorem cover7 (c : Dev nD) (i : grid0.Coords) (arg2 : Memref sig .tc .vmem S512x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S8x704x1024 .bf16) (harg5 : arg5.IsWhole) (arg6 : Memref sig .tc .vmem S8x3x768 .f32) (harg6 : arg6.IsWhole) (arg7 : Memref sig .tc .vmem S8x1x768 .f32) (harg7 : arg7.IsWhole) (arg8 : Memref sig .tc .vmem S4x704x1024 .bf16) (harg8 : arg8.IsWhole) (arg9 : Memref sig .tc .vmem S2x1x512x768 .bf16) (harg9 : arg9.IsWhole) (arg10 : Memref sig .tc .vmem S2x1x512x768 .bf16) (harg10 : arg10.IsWhole) (arg11 : Memref sig .tc .vmem S1x512x704 .bf16) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S1x1 .f32) (harg14 : arg14.IsWhole) (arg15 : Memref sig .tc .vmem S2x6x520x128 .f32) (harg15 : arg15.IsWhole) (arg16 : Memref sig .tc .vmem S8x8x704 .f32) (harg16 : arg16.IsWhole) (arg17 : Memref sig .tc .vmem S512x768 .bf16) (harg17 : arg17.IsWhole) (arg18 : Memref sig .tc .vmem S512x1024 .f32) (harg18 : arg18.IsWhole) (x0 : Vec F S512x1024 .bf16) (x1 : Vec F S512x1024 .f32) (x2 : Vec F S512x1024 .f32) (x3 : Vec F S8x704x1024 .bf16) (x4 : Vec F S8x3x768 .f32) (x5 : Vec F S8x1x768 .f32) (x6 : Vec F S4x704x1024 .bf16) (y : S2x1x512x768.Idx) :
    ∃ pc ∈ (ffnRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).1, y ∈ pc.1.set :=
  View.cover_of_tiledBy (ffnRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).1 ![1, 1, 256, 64] (by sl_kernel_rfl) y

/-- What the run leaves in the first result's staging buffer: its stores read back. -/
def out7 (c : Dev nD) (i : grid0.Coords) (arg2 : Memref sig .tc .vmem S512x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S8x704x1024 .bf16) (harg5 : arg5.IsWhole) (arg6 : Memref sig .tc .vmem S8x3x768 .f32) (harg6 : arg6.IsWhole) (arg7 : Memref sig .tc .vmem S8x1x768 .f32) (harg7 : arg7.IsWhole) (arg8 : Memref sig .tc .vmem S4x704x1024 .bf16) (harg8 : arg8.IsWhole) (arg9 : Memref sig .tc .vmem S2x1x512x768 .bf16) (harg9 : arg9.IsWhole) (arg10 : Memref sig .tc .vmem S2x1x512x768 .bf16) (harg10 : arg10.IsWhole) (arg11 : Memref sig .tc .vmem S1x512x704 .bf16) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S1x1 .f32) (harg14 : arg14.IsWhole) (arg15 : Memref sig .tc .vmem S2x6x520x128 .f32) (harg15 : arg15.IsWhole) (arg16 : Memref sig .tc .vmem S8x8x704 .f32) (harg16 : arg16.IsWhole) (arg17 : Memref sig .tc .vmem S512x768 .bf16) (harg17 : arg17.IsWhole) (arg18 : Memref sig .tc .vmem S512x1024 .f32) (harg18 : arg18.IsWhole) (x0 : Vec F S512x1024 .bf16) (x1 : Vec F S512x1024 .f32) (x2 : Vec F S512x1024 .f32) (x3 : Vec F S8x704x1024 .bf16) (x4 : Vec F S8x3x768 .f32) (x5 : Vec F S8x1x768 .f32) (x6 : Vec F S4x704x1024 .bf16) : Vec F S2x1x512x768 .bf16 :=
  VO7.read (Elt F) (VO7.writes (Elt F) VO7.junk (ffnRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).1)

/-- The same at point `t`, from the blocks the point finds. -/
def out7At (c : Dev nD) (t : Fin cfg0.N) : Vec F S2x1x512x768 .bf16 :=
  out7 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) (iblk m c 6 t)

/-- The results whose blocks nothing here names. -/
def unread : Fin cfg0.W → Bool := fun w => decide (7 < w.val)

/-- The proof data of the one pipeline: inputs at their blocks, the first result at the run's stores, the others unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7At m c t
    | ⟨8, _⟩ => Pipeline.Dat.unnamed (cfg := cfg0) 8 t
    | ⟨9, _⟩ => Pipeline.Dat.unnamed (cfg := cfg0) 9 t
    | ⟨10, _⟩ => Pipeline.Dat.unnamed (cfg := cfg0) 10 t
    | ⟨11, _⟩ => Pipeline.Dat.unnamed (cfg := cfg0) 11 t
    | ⟨12, _⟩ => Pipeline.Dat.unnamed (cfg := cfg0) 12 t
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out7At m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- The invariant between points, buffer by buffer: each scratch owned at some contents, the generator at some state. -/
theorem PhiA_eq (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d))
          ∗ ∃ r, prngReg c r) := by
  unfold Pipeline.ΦA; rw [scopedRest0_eq]; simp only [owns_whole]; try rfl

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare d)
    ∗ (∃ d, owns (c : Thread nD τ) (ms9 t) fullShare d)
    ∗ (∃ d, owns (c : Thread nD τ) (ms10 t) fullShare d)
    ∗ (∃ d, owns (c : Thread nD τ) (ms11 t) fullShare d)
    ∗ (∃ d, owns (c : Thread nD τ) (ms12 t) fullShare d))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ (∃ d, owns (c : Thread nD τ) (ms8 t) fullShare d)
    ∗ (∃ d, owns (c : Thread nD τ) (ms9 t) fullShare d)
    ∗ (∃ d, owns (c : Thread nD τ) (ms10 t) fullShare d)
    ∗ (∃ d, owns (c : Thread nD τ) (ms11 t) fullShare d)
    ∗ (∃ d, owns (c : Thread nD τ) (ms12 t) fullShare d))

/-- The body at any point: the invariant opened, the run, the invariant closed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq,
    after0_0, after0_1, after0_2, after0_3, after0_4, after0_5, after0_6, after0_7]
  unfold out7At out7
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10, H11, H12⟩
  iapply ((ffnRun c (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  isplitl [H10]; · iexact H10
  isplitl [H11]; · iexact H11
  isplitl [H12]; · iexact H12
  isplitl [S0]; · iexact S0
  isplitl [S1]; · iexact S1
  isplitl [S2]; · iexact S2
  isplitl [S3]; · iexact S3
  iintro ⟨H0, H1, H2, H3, H4, H5, H6, ⟨%e7, H7⟩, H8, H9, H10, H11, H12, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (cover7 c _ _ _ _ _ _ _ _ _ _ _ _ _ _ _ _ _ _ _ _ _ _ _ _ _ _ _ _ _ _ _ _ _ _ _ _ _ _ _ _ _ _ )
  isplitl [H8]; · iexact H8
  isplitl [H9]; · iexact H9
  isplitl [H10]; · iexact H10
  isplitl [H11]; · iexact H11
  iexact H12

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The obligation the pipeline asks for, with the other five results unnamed. -/
theorem body_obligation (c : Dev nD) :
    BodyObligation (dats (F := F) m 0 c) (defs₀ (F := F)) Variants.none () Set.univ unread := fun t => by
  rw [bigSep_W0, bigSep_W0, defs₀_row]
  exact triple_restated (sound_body m c t) rfl .rfl fun _ => .rfl

set_option backward.isDefEq.respectTransparency.types false in
/-- Every execution ends, every array at what the proof data says of it, every semaphore at zero. -/
theorem run_main :
    θ_run defs (onTc (τ := τ) (main (F := F))) (s₀ m ρ)
      (fun r => Pipeline.RDat.FramePost (cfgs 0) (fun c => (dats m 0 c).toRForget unread) (V m) r ∧ r.2.sem = fun _ => 0) :=
  Pipeline.θ_run_frame_forget (Q' := _) cfgs (dats m) (0 : Fin 1) launch0 defs₀ Variants.none unread m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays after the run. -/
theorem args_kept {r : PUnit × MemSt nD τ sig (Elt F)}
    (h : Pipeline.RDat.FramePost (cfgs 0) (fun c => (dats m 0 c).toRForget unread) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨(h.arr_in c 0 rfl).trans ((A_eq m c 0).trans (V_main_arg0 m c)),
    (h.arr_in c 1 rfl).trans ((A_eq m c 1).trans (V_main_arg1 m c)),
    (h.arr_in c 2 rfl).trans ((A_eq m c 2).trans (V_main_arg2 m c)),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c)⟩

/-- The first result after the run: what the pipeline leaves when each point's block is `out7At`. -/
theorem result7 {r : PUnit × MemSt nD τ sig (Elt F)}
    (h : Pipeline.RDat.FramePost (cfgs 0) (fun c => (dats m 0 c).toRForget unread) (V m) r) (c : Dev nD) :
    r.2.mem ((c.tc : Thread nD τ).loc main_v10_0) = (dats m 0 c).arrAt 7 cfg0.N :=
  ((dats m 0 c).toRForget_arrAt_iff (fgt := unread) (w := 7) rfl cfg0.N _).mp ((h c).1 7)

end Cert.Kernel7Ideal.Gen

end
-- ==== Proof.FfnSpec.lean ====
module

public import Idealize.ShloMosaic.Lib.Pointwise

@[expose] public section

noncomputable section

/-!
The first product of the feed-forward layer, entry by entry, as it is kept for the backward pass: the 5632 columns are cut into two
halves of four chunks of 704, and each chunk is filled up with zeros to 768.
-/

namespace Cert.Ffn

open Idealize.ShloMosaic

/-- The column that is column `k` of a chunk. -/
def col (half : Fin 2) (chunk : Fin 4) (k : Fin 704) : Fin 5632 := ⟨half.val * 2816 + chunk.val * 704 + k.val, by omega⟩

/-- The product of row `i` with a column of a chunk, zero past the chunk's columns. -/
def up (h : Fin 8192 → Fin 1024 → EReal) (w : Fin 1024 → Fin 5632 → EReal) (half : Fin 2) (chunk : Fin 4) (i : Fin 8192) (k : Fin 768) :
    EReal :=
  if hk : k.val < 704 then ∑ j, h i j * w j (col half chunk ⟨k.val, hk⟩) else 0

end Cert.Ffn

end
-- ==== Proof.FfnUp.lean ====
module

public import proofs.«01_k».proof.Proof.FfnSpec
public import proofs.«01_k».proof.Proof.FfnFrame
public import Idealize.ShloMosaic.Lib.Pointwise
public import Idealize.ShloMosaic.Lib.Claim
public import Idealize.ShloMosaic.Lib.WholeRead
public import Idealize.ShloMosaic.Lib.Pipeline.ValueKit
public import Idealize.ShloMosaic.Lib.Pipeline.ReadBack

@[expose] public section

set_option maxRecDepth 16384

noncomputable section

/-!
What the first result array of the feed-forward forward call holds after its run.
-/

open Idealize.ShloMosaic Idealize.ShloMosaic.TcCoe Idealize.SL.Sem

namespace Cert.Kernel7Ideal.Value

open Cert.Kernel7Ideal Cert.Kernel7Ideal.Gen

/-! The body's products, whatever the blocks they are of. -/

theorem pay256 (v : Vec Ideal S256x1024 .bf16) (w : Vec Ideal S1x256x1024 .bf16) (x : S1x1x256x256.Idx) :
    k0_pay30 v w x = ∑ k : Fin 1024, v (ix2 (x 2) k) * w (ix3 0 (x 3) k) := by
  idx_vars x
  pointwise [k0_pay30, k0_pay29]

theorem pay192 (v : Vec Ideal S256x1024 .bf16) (w : Vec Ideal S1x192x1024 .bf16) (x : S1x1x256x192.Idx) :
    k0_pay135 v w x = ∑ k : Fin 1024, v (ix2 (x 2) k) * w (ix3 0 (x 3) k) := by
  idx_vars x
  pointwise [k0_pay135, k0_pay134]

theorem pay64 (x : S1x1x256x64.Idx) : k0_pay136 (F := Ideal) x = 0 := by
  idx_vars x
  pointwise [k0_pay136]

/-! The offsets of the weight block the body reads: that of chunk `i 1` of a half. -/

theorem off5 : ∀ i : grid0.Coords, k0_off5 i 0#32 = ![(i 1).val, 0, 0] ∧ k0_off5 i 4#32 = ![(i 1).val + 4, 0, 0] := by decide +kernel
theorem off9 : ∀ i : grid0.Coords, k0_off9 i 0#32 = ![(i 1).val, 256, 0] ∧ k0_off9 i 4#32 = ![(i 1).val + 4, 256, 0] := by decide +kernel
theorem off13 : ∀ i : grid0.Coords, k0_off13 i 0#32 = ![(i 1).val, 512, 0] ∧ k0_off13 i 4#32 = ![(i 1).val + 4, 512, 0] := by decide +kernel

/-! A product of blocks read off the tiles' and the weight's staging buffers. -/

variable {arg2 : Memref sig .tc .vmem S512x1024 .bf16} (h2 : arg2.IsWhole) {arg5 : Memref sig .tc .vmem S8x704x1024 .bf16} (h5 : arg5.IsWhole)
variable (x0 : Vec Ideal S512x1024 .bf16) (x3 : Vec Ideal S8x704x1024 .bf16)

/-- The product of row `r` of the tile with column `k` of chunk `q` of the weight. -/
def dot (r : Fin 512) (q : Fin 8) (k : Fin 704) : EReal := ∑ j : Fin 1024, x0 (ix2 r j) * x3 (ix3 q k j)

theorem tile_at (o : Fin 2 → Nat) (ho) (r : Fin 256) (j : Fin 1024) (i : Fin 512) (hi : i.val = o 0 + r.val) (h1 : o 1 = 0) :
    View.readAt (Elt Ideal) arg2.view (Rect.unit (s := S512x1024) o S256x1024.size ho).toLoadRect (h2.unread x0) (ix2 r j) = x0 (ix2 i j) := by
  rw [View.readAt_eq_ld, h2.read_unread]
  exact View.ld_unit_apply_of _ _ _ _ _ (ix2 i j) fun a => match a with
    | ⟨0, _⟩ => hi
    | ⟨1, _⟩ => by show j.val = o 1 + j.val; omega

theorem weight256 (o : Fin 3 → Nat) (ho) (k : Fin 256) (j : Fin 1024) (q : Fin 8) (i : Fin 704) (hq : q.val = o 0) (hi : i.val = o 1 + k.val)
    (h2 : o 2 = 0) :
    View.readAt (Elt Ideal) arg5.view (Rect.unit (s := S8x704x1024) o S1x256x1024.size ho).toLoadRect (h5.unread x3) (ix3 0 k j) = x3 (ix3 q i j) := by
  rw [View.readAt_eq_ld, h5.read_unread]
  exact View.ld_unit_apply_of _ _ _ _ _ (ix3 q i j) fun a => match a with
    | ⟨0, _⟩ => hq
    | ⟨1, _⟩ => hi
    | ⟨2, _⟩ => by show j.val = o 2 + j.val; omega

theorem weight192 (o : Fin 3 → Nat) (ho) (k : Fin 192) (j : Fin 1024) (q : Fin 8) (i : Fin 704) (hq : q.val = o 0) (hi : i.val = o 1 + k.val)
    (h2 : o 2 = 0) :
    View.readAt (Elt Ideal) arg5.view (Rect.unit (s := S8x704x1024) o S1x192x1024.size ho).toLoadRect (h5.unread x3) (ix3 0 k j) = x3 (ix3 q i j) := by
  rw [View.readAt_eq_ld, h5.read_unread]
  exact View.ld_unit_apply_of _ _ _ _ _ (ix3 q i j) fun a => match a with
    | ⟨0, _⟩ => hq
    | ⟨1, _⟩ => hi
    | ⟨2, _⟩ => by show j.val = o 2 + j.val; omega

theorem dot256 (o : Fin 2 → Nat) (ho) (p : Fin 3 → Nat) (hp) (x : S1x1x256x256.Idx) (r : Fin 512) (q : Fin 8) (k : Fin 704)
    (hr : r.val = o 0 + (x 2).val) (h1 : o 1 = 0) (hq : q.val = p 0) (hk : k.val = p 1 + (x 3).val) (hz : p 2 = 0) :
    k0_pay30 (View.readAt (Elt Ideal) arg2.view (Rect.unit (s := S512x1024) o S256x1024.size ho).toLoadRect (h2.unread x0))
      (View.readAt (Elt Ideal) arg5.view (Rect.unit (s := S8x704x1024) p S1x256x1024.size hp).toLoadRect (h5.unread x3)) x = dot x0 x3 r q k :=
  (pay256 _ _ x).trans (Finset.sum_congr rfl fun j _ => congrArg₂ (· * ·) (tile_at h2 x0 o ho (x 2) j r hr h1) (weight256 h5 x3 p hp (x 3) j q k hq hk hz))

theorem dot192 (o : Fin 2 → Nat) (ho) (p : Fin 3 → Nat) (hp) (x : S1x1x256x192.Idx) (r : Fin 512) (q : Fin 8) (k : Fin 704)
    (hr : r.val = o 0 + (x 2).val) (h1 : o 1 = 0) (hq : q.val = p 0) (hk : k.val = p 1 + (x 3).val) (hz : p 2 = 0) :
    k0_pay135 (View.readAt (Elt Ideal) arg2.view (Rect.unit (s := S512x1024) o S256x1024.size ho).toLoadRect (h2.unread x0))
      (View.readAt (Elt Ideal) arg5.view (Rect.unit (s := S8x704x1024) p S1x192x1024.size hp).toLoadRect (h5.unread x3)) x = dot x0 x3 r q k :=
  (pay192 _ _ x).trans (Finset.sum_congr rfl fun j _ => congrArg₂ (· * ·) (tile_at h2 x0 o ho (x 2) j r hr h1) (weight192 h5 x3 p hp (x 3) j q k hq hk hz))

variable (m : (ℓ : Loc nD τ sig) → Buf (Elt Ideal) ℓ) (c : Dev nD)

/-- The row of the whole array that is row `a` of the tile of point `t`. -/
def row (t : Fin cfg0.N) (a : Fin 512) : Fin 8192 :=
  ⟨(grid0.coords t 0).val * 512 + a.val, by have : (grid0.coords t 0).val < 16 := (grid0.coords t 0).isLt; omega⟩
/-- The chunk of point `t`. -/
def chunk (t : Fin cfg0.N) : Fin 4 := ⟨(grid0.coords t 1).val, (grid0.coords t 1).isLt⟩
/-- The chunk of point `t` in a half, among all eight. -/
def whole (half : Fin 2) (t : Fin cfg0.N) : Fin 8 := ⟨(grid0.coords t 1).val + 4 * half.val, by have : (grid0.coords t 1).val < 4 := (grid0.coords t 1).isLt; omega⟩

/-- Which block each of the windows in question shows at a point. -/
theorem idx : ∀ t : Fin cfg0.N, win0_0.index t = ![(grid0.coords t 0).val, 0] ∧ win0_3.index t = ![0, 0, 0]
    ∧ win0_7.index t = ![0, (grid0.coords t 1).val, (grid0.coords t 0).val, 0] :=
  (by decide +kernel : ∀ t : Fin grid0.N, _)

/-! The arguments the first result reads, by row and column. -/

def H (i : Fin 8192) (j : Fin 1024) : EReal := m ((c.tc : Thread nD τ).loc main_arg0) (ix2 i j)
def U (i : Fin 1024) (j : Fin 5632) : EReal := m ((c.tc : Thread nD τ).loc main_arg3) (ix2 i j)

/-- The weight as the region finds it: turned, and cut into its eight chunks. -/
theorem weight_read : V m c main_v2
    = shapeCast S8x704x1024 (truncf (F := Ideal) .bf16 (transpose S5632x1024 [1, 0] (m ((c.tc : Thread nD τ).loc main_arg3)) transposes_S1024x5632_S5632x1024_1_0)
        bitsLt_bf16_f32) shapeCasts_S5632x1024_S8x704x1024 := by
  show StableHlo.after _ _ _ = _
  simp only [hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results <;> rfl

/-! What the windows show. -/

theorem in0 (t : Fin cfg0.N) (a : Fin 512) (j : Fin 1024) : iblk m c 0 t (ix2 a j) = H m c (row t a) j := by
  unfold H row; blk_ext [iblk, V, idx t]

theorem in3 (t : Fin cfg0.N) (half : Fin 2) (k : Fin 704) (j : Fin 1024) :
    iblk m c 3 t (ix3 (whole half t) k j) = U m c j (Ffn.col half (chunk t) k) := by
  unfold U
  have e : ((cfg0.win 3).blk t).view.emb (ix3 (whole half t) k j) = ix3 (whole half t) k j := by blk_ext [idx t]
  refine (congrFun (weight_read m c) _).trans ?_
  rw [e]
  pointwise
  congr 2
  refine Fin.ext ?_
  show ((grid0.coords t 1).val + 4 * half.val) * 704 + k.val = half.val * 2816 + (grid0.coords t 1).val * 704 + k.val
  omega

/-- What the body leaves at an entry of its block. -/
theorem block_dot (t : Fin cfg0.N) (half : Fin 2) (a : Fin 512) (k : Fin 768) :
    out7At m c t (ix4 half 0 a k) = if hk : k.val < 704 then dot (iblk m c 0 t) (iblk m c 3 t) a (whole half t) ⟨k.val, hk⟩ else 0 := by
  have b5 := off5 (grid0.coords t)
  have b9 := off9 (grid0.coords t)
  have b13 := off13 (grid0.coords t)
  unfold out7At out7
  rw [View.read_writes_apply_eq_canon _ _ _ _ (cover7 c _ _ _ _ _ _ _ _ _ _ _ _ _ _ _ _ _ _ _ _ _ _ _ _ _ _ _ _ _ _ _ _ _ _ _ _ _ _ _ _ _ _ _)]
  unfold ffnRun
  dsimp only
  unfold ffnRun.sl.H7_16
  canon_tiles x h using View.cover_of_tiledBy _ ![1, 1, 256, 64] (by sl_kernel_rfl) _
  all_goals simp only [ix4] at h0 h1 h2 h3
  all_goals first
    | (rw [dif_neg (show ¬ k.val < 704 by omega)]; exact pay64 x)
    | (rw [dif_pos (show k.val < 704 by omega)]
       first
         | refine dot256 _ _ _ _ _ _ _ _ x _ _ _ ?_ ?_ ?_ ?_ ?_
         | refine dot192 _ _ _ _ _ _ _ _ x _ _ _ ?_ ?_ ?_ ?_ ?_)
  all_goals try simp only [whole, b5.1, b5.2, b9.1, b9.2, b13.1, b13.2]
  all_goals first
    | rfl
    | (simp; omega)

theorem block_up (t : Fin cfg0.N) (half : Fin 2) (a : Fin 512) (k : Fin 768) :
    out7At m c t (ix4 half 0 a k) = Ffn.up (H m c) (U m c) half (chunk t) (row t a) k := by
  rw [block_dot, Ffn.up]
  simp only [dot, in0, in3]

/-- The first result when the region ends. -/
theorem final : (dats m 0 c).arrAt 7 cfg0.N = fun y : S2x4x8192x768.Idx => Ffn.up (H m c) (U m c) (y 0) (y 1) (y 2) (y 3) := by
  refine (dats m 0 c).arrAt_eq_of_covers 7 _ (by decide +kernel) fun t hf y => ?_
  blk_simp
  rw [after0_7]
  obtain ⟨half, o, a, k, rfl⟩ : ∃ (half : Fin 2) (o : Fin 1) (a : Fin 512) (k : Fin 768), y = ix4 half o a k :=
    ⟨y 0, y 1, y 2, y 3, by funext i; match i with | 0 => rfl | 1 => rfl | 2 => rfl | 3 => rfl⟩
  obtain rfl : o = 0 := Subsingleton.elim _ _
  refine (block_up m c t half a k).trans ?_
  have e : ((cfg0.win 7).blk t).view.emb (ix4 half 0 a k) = ix4 half (chunk t) (row t a) k := by unfold row chunk; blk_ext [idx t]
  simp only [e]; rfl

end Cert.Kernel7Ideal.Value

end
-- ==== Proof.FfnUpRef.lean ====
module

public import proofs.«01_k».proof.Proof.FfnSpec
public import proofs.«01_k».proof.Proof.Gen.Reference7Ideal.Run
public import Idealize.ShloMosaic.Lib.Pointwise
public import Idealize.ShloMosaic.Lib.Claim

@[expose] public section

set_option maxRecDepth 16384

noncomputable section

/-!
What the reference for the feed-forward layer's first product computes.
-/

open Idealize.ShloMosaic Idealize.ShloMosaic.TcCoe Idealize.SL.Sem

namespace Cert.Reference7Ideal.Value

open Cert.Reference7Ideal Cert.Reference7Ideal.Gen

variable (m : (ℓ : Loc nD τ sig) → Buf (Elt Ideal) ℓ) (c : Dev nD)

/-! The arguments the first result reads, by row and column. -/

def H (i : Fin 8192) (j : Fin 1024) : EReal := m ((c.tc : Thread nD τ).loc main_arg0) (ix2 i j)
def U (i : Fin 1024) (j : Fin 5632) : EReal := m ((c.tc : Thread nD τ).loc main_arg3) (ix2 i j)

theorem run_spec (g : Dev nD → PrngReg) :
    θ_run defs (onTc (τ := τ) (main (F := Ideal))) ⟨m, fun _ => 0, g⟩ fun r => ∀ c : Dev nD,
      r.2.mem ((c.tc : Thread nD τ).loc main_v5) = (fun y : S2x4x8192x768.Idx => Ffn.up (H m c) (U m c) (y 0) (y 1) (y 2) (y 3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run _ _ _).mono (fun r h c => ⟨(h c).1.trans ?_, (h c).2⟩) (run m g)
  funext y
  idx_vars y
  pointwise
  unfold Ffn.up
  split
  · rfl
  · simp [FloatOps.sitofp]

end Cert.Reference7Ideal.Value

end
-- ==== Proof.FfnUpEq.lean ====
module

public import proofs.«01_k».proof.Defs
public import proofs.«01_k».proof.Proof.Gen.Kernel7
public import proofs.«01_k».proof.Proof.Gen.Kernel7Ideal
public import proofs.«01_k».proof.Proof.FfnFrame
public import proofs.«01_k».proof.Proof.Gen.Reference7Ideal
public import proofs.«01_k».proof.Proof.FfnUp
public import proofs.«01_k».proof.Proof.FfnUpRef
public import Idealize.ShloMosaic.Lib.Claim
public import Idealize.ShloMosaic.Lib.Tactic

@[expose] public section

set_option maxRecDepth 16384

noncomputable section

/-!
The feed-forward forward call and its reference end with the same first result.
-/

open Idealize.ShloMosaic Idealize.ShloMosaic.TcCoe Idealize.SL.Sem

namespace Cert.Kernel7Ideal.Value

open Cert.Kernel7Ideal Cert.Kernel7Ideal.Gen

variable (m : (ℓ : Loc nD τ sig) → Buf (Elt Ideal) ℓ) (c : Dev nD)

theorem run_spec (g : Dev nD → PrngReg) :
    θ_run defs (onTc (τ := τ) (main (F := Ideal))) ⟨m, fun _ => 0, g⟩ fun r => ∀ c : Dev nD,
      r.2.mem ((c.tc : Thread nD τ).loc main_v10_0) = (fun y : S2x4x8192x768.Idx => Ffn.up (H m c) (U m c) (y 0) (y 1) (y 2) (y 3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run _ _ _).mono (fun r h c => ⟨(result7 m h.1 c).trans (final m c), args_kept m h.1 c⟩) (run_main m g)

end Cert.Kernel7Ideal.Value

namespace Cert.Proof

/-- The reference's frame: its arguments end unchanged, and it has no semaphore. -/
theorem ffn_up_ref_frame : Cert.quiescent_Reference7Ideal := fun m ρ _ =>
  (θ_run Cert.Reference7Ideal.defs _ _).mono (fun r h => ⟨fun c => (h c).2, sem_eq_zero_of_no_sems (by decide) r.2⟩)
    (Cert.Reference7Ideal.Value.run_spec m ρ)

/-- The call over any numbers: it runs, its arguments end unchanged and every semaphore ends at zero. -/
theorem ffn_up_frame_any {F : FTy → Type} [FloatOps F] (m : (ℓ : Loc Cert.Kernel7Ideal.nD Cert.Kernel7Ideal.τ Cert.Kernel7Ideal.sig) → Buf (Elt F) ℓ) (ρ : Dev Cert.Kernel7Ideal.nD → PrngReg) :
    θ_run Cert.Kernel7Ideal.defs (onTc (τ := Cert.Kernel7Ideal.τ) (Cert.Kernel7Ideal.main (F := F))) ⟨m, fun _ => 0, ρ⟩ fun r =>
      (∀ c : Dev Cert.Kernel7Ideal.nD, r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0) ∧
        r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1) ∧
        r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2) ∧
        r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3) ∧
        r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4) ∧
        r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5) ∧
        r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)) ∧
      r.2.sem = fun _ => 0 :=
  (θ_run Cert.Kernel7Ideal.defs _ _).mono (fun _ h => ⟨fun c => Cert.Kernel7Ideal.Gen.args_kept m h.1 c, h.2⟩) (Cert.Kernel7Ideal.Gen.run_main m ρ)

theorem ffn_up_frame_ideal : Cert.quiescent_Kernel7Ideal := fun m ρ _ => ffn_up_frame_any m ρ

/-- The two programs have the same body. -/
theorem ffn_up_defs : Cert.Kernel7.defs (F := Bits) = Cert.Kernel7Ideal.defs (F := Bits) := by sl_kernel_rfl

theorem ffn_up_frame : Cert.quiescent_Kernel7 := by
  intro m ρ _
  rw [ffn_up_defs]
  exact ffn_up_frame_any (F := Bits) m ρ

section

variable (m : (ℓ : Loc Cert.Kernel7Ideal.nD Cert.Kernel7Ideal.τ Cert.Kernel7Ideal.sig) → Buf (Elt Ideal) ℓ)
  (m' : (ℓ : Loc Cert.Reference7Ideal.nD Cert.Reference7Ideal.τ Cert.Reference7Ideal.sig) → Buf (Elt Ideal) ℓ)
  (c : Dev Cert.Kernel7Ideal.nD)

theorem ffn_H (h : m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)) :
    Cert.Reference7Ideal.Value.H m' c = Cert.Kernel7Ideal.Value.H m c := by
  unfold Cert.Reference7Ideal.Value.H Cert.Kernel7Ideal.Value.H; rw [h]

theorem ffn_U (h : m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) :
    Cert.Reference7Ideal.Value.U m' c = Cert.Kernel7Ideal.Value.U m c := by
  unfold Cert.Reference7Ideal.Value.U Cert.Kernel7Ideal.Value.U; rw [h]

end

/-- The two ways to compute the first product agree. -/
theorem ffn_up : Cert.algebraic_Kernel7Ideal_Reference7Ideal := by
  intro m g m' g' _ hagree
  refine ⟨_, Cert.Kernel7Ideal.Value.run_spec m g, ?_⟩
  refine (θ_run Cert.Reference7Ideal.defs _ _).mono (fun r h c => ?_) (Cert.Reference7Ideal.Value.run_spec m' g')
  obtain ⟨h0, h1, h2, h3, h4, h5, h6⟩ := hagree c
  have eH := ffn_H m m' c h0
  have eU := ffn_U m m' c h3
  have hc := h c
  simp only [eH, eU] at hc
  exact hc

end Cert.Proof

end
-- ==== Proof.AdamFrame.lean ====
module

public import proofs.«01_k».proof.Proof.Gen.Kernel8Ideal.Launch
public import proofs.«01_k».proof.Proof.Gen.Kernel8Ideal.Skeleton
public import proofs.«01_k».proof.Proof.Gen.Kernel8Ideal.Points
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

/-! The run of the optimiser's call on the four large weights: what its body does to one block of rows of each, and what the
    sixteen arguments and the twelve results hold at the end. -/

namespace Cert.Kernel8Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The program around the call -/

/-- Core `c`'s buffers when the call is entered: after the operations before it. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- The program around the call: the operations before it, the call, the operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The operations after the call touch the call's arrays and buffers outside it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 336000 in
/-- and write no array of the call. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the call writes a buffer other than its own result: the call finds the others as launched. -/
theorem V_kept (c : Dev nD) {b : Ref sig .tc} (hb : b ≠ main_v0 ∧ b ≠ main_v1 ∧ b ≠ main_v2 ∧ b ≠ main_v3 ∧ b ≠ main_v4 ∧ b ≠ main_v5) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append, List.nil_append, List.Forall, StableHlo.unary_writes,
      Finset.mem_singleton]
    exact ⟨StableHlo.devRef_ne_of_ne hb.1, StableHlo.devRef_ne_of_ne hb.2.1, StableHlo.devRef_ne_of_ne hb.2.2.1,
      StableHlo.devRef_ne_of_ne hb.2.2.2.1, StableHlo.devRef_ne_of_ne hb.2.2.2.2.1, StableHlo.devRef_ne_of_ne hb.2.2.2.2.2⟩))

/-- And an array the call does not walk ends as launched. -/
theorem W_kept (dats : (p : Fin _) → (c : Dev nD) → Dat τ (Elt F) Unit ℕ (UR sig nD τ) ℕ (cfgs p) c) (c : Dev nD) {b : Ref sig .tc}
    (hb : b ≠ main_v0 ∧ b ≠ main_v1 ∧ b ≠ main_v2 ∧ b ≠ main_v3 ∧ b ≠ main_v4 ∧ b ≠ main_v5) (hb' : b ≠ main_v7 ∧ b ≠ main_v8 ∧ b ≠ main_v9 ∧ b ≠ main_v10 ∧ b ≠ main_v11 ∧ b ≠ main_v12) (hw : ∀ w, Pipeline.arrRef spec0 w ≠ b) :
    Pipeline.afterTail₀ cfgs dats 0 (V0 m) [hostOps1] c b = m ((c : Thread nD τ).loc b) := by
  unfold Pipeline.afterTail₀
  rw [StableHlo.after_of_forall_not_mem (b := Proc.devRef .tc b) _ _ (List.forall_iff_forall_mem.mp (by
      simp only [hostOps1, List.flatten_cons, List.flatten_nil, List.append_nil, List.cons_append, List.nil_append, List.Forall, StableHlo.unary_writes,
      Finset.mem_singleton]
      exact ⟨StableHlo.devRef_ne_of_ne hb'.1, StableHlo.devRef_ne_of_ne hb'.2.1, StableHlo.devRef_ne_of_ne hb'.2.2.1,
        StableHlo.devRef_ne_of_ne hb'.2.2.2.1, StableHlo.devRef_ne_of_ne hb'.2.2.2.2.1, StableHlo.devRef_ne_of_ne hb'.2.2.2.2.2⟩)),
    Pipeline.withArrays_of_ne _ c (V0 m c) _ b hw]
  exact V_kept m c hb

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input's staging buffer holds its block at every point, fetched there or not, for any proof data whose array is `V`'s
    and whose body leaves the block in place. -/
theorem before_of {c : Dev nD} (dat : Dat τ (Elt F) Unit ℕ (UR sig nD τ) ℕ cfg0 c) (w : Fin cfg0.W)
    (hA : dat.A w = V m c (Pipeline.arrRef spec0 w)) (hw : (cfg0.win w).isOut = false) (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hkeep : ∀ t, (cfg0.win w).cut (cfg0.grid.coords t) (dat.after w t) = iblk m c w t) (t : Fin cfg0.N) (d) :
    dat.before w t d = dat.fetched w t d :=
  dat.before_in_eq_fetched w hw hlive hclip (fun t => by rw [hkeep]; unfold Dat.blockOf iblk; rw [hA]) t d

set_option maxHeartbeats 2000000 in
/-- The arguments end unchanged, from a run to the final state of any proof data whose arrays are what the call finds. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨(((h c).2 main_arg0 (Pipeline.mem_restRefs_of main_arg0 (by decide) (by decide))).trans (W_kept m dats c (by decide) (by decide) (by decide))),
      ((h c).1 4).trans (((dats 0 c).arrAt_in 4 rfl _).trans ((hA c 4).trans (V_kept m c (by decide)))),
      (((h c).2 main_arg2 (Pipeline.mem_restRefs_of main_arg2 (by decide) (by decide))).trans (W_kept m dats c (by decide) (by decide) (by decide))),
      ((h c).1 12).trans (((dats 0 c).arrAt_in 12 rfl _).trans ((hA c 12).trans (V_kept m c (by decide)))),
      ((h c).1 1).trans (((dats 0 c).arrAt_in 1 rfl _).trans ((hA c 1).trans (V_kept m c (by decide)))),
      ((h c).1 5).trans (((dats 0 c).arrAt_in 5 rfl _).trans ((hA c 5).trans (V_kept m c (by decide)))),
      ((h c).1 9).trans (((dats 0 c).arrAt_in 9 rfl _).trans ((hA c 9).trans (V_kept m c (by decide)))),
      ((h c).1 13).trans (((dats 0 c).arrAt_in 13 rfl _).trans ((hA c 13).trans (V_kept m c (by decide)))),
      (((h c).2 main_arg8 (Pipeline.mem_restRefs_of main_arg8 (by decide) (by decide))).trans (W_kept m dats c (by decide) (by decide) (by decide))),
      ((h c).1 6).trans (((dats 0 c).arrAt_in 6 rfl _).trans ((hA c 6).trans (V_kept m c (by decide)))),
      (((h c).2 main_arg10 (Pipeline.mem_restRefs_of main_arg10 (by decide) (by decide))).trans (W_kept m dats c (by decide) (by decide) (by decide))),
      ((h c).1 14).trans (((dats 0 c).arrAt_in 14 rfl _).trans ((hA c 14).trans (V_kept m c (by decide)))),
      (((h c).2 main_arg12 (Pipeline.mem_restRefs_of main_arg12 (by decide) (by decide))).trans (W_kept m dats c (by decide) (by decide) (by decide))),
      ((h c).1 7).trans (((dats 0 c).arrAt_in 7 rfl _).trans ((hA c 7).trans (V_kept m c (by decide)))),
      (((h c).2 main_arg14 (Pipeline.mem_restRefs_of main_arg14 (by decide) (by decide))).trans (W_kept m dats c (by decide) (by decide) (by decide))),
      ((h c).1 15).trans (((dats 0 c).arrAt_in 15 rfl _).trans ((hA c 15).trans (V_kept m c (by decide))))⟩) h

/-! ## The body's accesses -/

abbrev r0_0 : Rect S56x1024 := Rect.unit (s := S56x1024) ![0, 0] S56x1024.size inb_S56x1024_S56x1024_0_0
abbrev r0_1 : Rect S32x1024 := Rect.unit (s := S32x1024) ![0, 0] S32x1024.size inb_S32x1024_S32x1024_0_0
abbrev r0_2 : Rect S176x1024 := Rect.unit (s := S176x1024) ![0, 0] S176x1024.size inb_S176x1024_S176x1024_0_0
abbrev r0_3 : Rect S88x1024 := Rect.unit (s := S88x1024) ![0, 0] S88x1024.size inb_S88x1024_S88x1024_0_0

/-! ## What the body leaves in each output window's buffer -/

/-- Output 16's block after the body, from the input blocks. -/
def out0_16 (x0 : Vec F S56x1024 .f32) (x1 : Vec F S56x1024 .f32) (x2 : Vec F S56x1024 .f32) (x3 : Vec F S56x1024 .f32) (x4 : Vec F S32x1024 .f32) (x5 : Vec F S32x1024 .f32) (x6 : Vec F S32x1024 .f32) (x7 : Vec F S32x1024 .f32) (x8 : Vec F S176x1024 .f32) (x9 : Vec F S176x1024 .f32) (x10 : Vec F S176x1024 .f32) (x11 : Vec F S176x1024 .f32) (x12 : Vec F S88x1024 .f32) (x13 : Vec F S88x1024 .f32) (x14 : Vec F S88x1024 .f32) (x15 : Vec F S88x1024 .f32) : Vec F S56x1024 .f32 :=
  View.canon [⟨r0_0, k0_pay6 (View.ld x0 r0_0) (View.ld x1 r0_0) (View.ld x2 r0_0) (View.ld x3 r0_0)⟩]

/-- Its one store covers it. -/
theorem cover0_16 (p0 : Vec F S56x1024 .f32) (y : S56x1024.Idx) :
    ∃ pc ∈ ([⟨r0_0, p0⟩] : List (View.Piece (Elt F) S56x1024 .f32)), y ∈ pc.1.set :=
  View.cover_of_tiled [⟨r0_0, p0⟩] S56x1024.size (by rfl) y

/-- Output 17's block after the body, from the input blocks. -/
def out0_17 (x0 : Vec F S56x1024 .f32) (x1 : Vec F S56x1024 .f32) (x2 : Vec F S56x1024 .f32) (x3 : Vec F S56x1024 .f32) (x4 : Vec F S32x1024 .f32) (x5 : Vec F S32x1024 .f32) (x6 : Vec F S32x1024 .f32) (x7 : Vec F S32x1024 .f32) (x8 : Vec F S176x1024 .f32) (x9 : Vec F S176x1024 .f32) (x10 : Vec F S176x1024 .f32) (x11 : Vec F S176x1024 .f32) (x12 : Vec F S88x1024 .f32) (x13 : Vec F S88x1024 .f32) (x14 : Vec F S88x1024 .f32) (x15 : Vec F S88x1024 .f32) : Vec F S56x1024 .f32 :=
  View.canon [⟨r0_0, k0_pay4 (View.ld x1 r0_0) (View.ld x2 r0_0)⟩]

/-- Its one store covers it. -/
theorem cover0_17 (p0 : Vec F S56x1024 .f32) (y : S56x1024.Idx) :
    ∃ pc ∈ ([⟨r0_0, p0⟩] : List (View.Piece (Elt F) S56x1024 .f32)), y ∈ pc.1.set :=
  View.cover_of_tiled [⟨r0_0, p0⟩] S56x1024.size (by rfl) y

/-- Output 18's block after the body, from the input blocks. -/
def out0_18 (x0 : Vec F S56x1024 .f32) (x1 : Vec F S56x1024 .f32) (x2 : Vec F S56x1024 .f32) (x3 : Vec F S56x1024 .f32) (x4 : Vec F S32x1024 .f32) (x5 : Vec F S32x1024 .f32) (x6 : Vec F S32x1024 .f32) (x7 : Vec F S32x1024 .f32) (x8 : Vec F S176x1024 .f32) (x9 : Vec F S176x1024 .f32) (x10 : Vec F S176x1024 .f32) (x11 : Vec F S176x1024 .f32) (x12 : Vec F S88x1024 .f32) (x13 : Vec F S88x1024 .f32) (x14 : Vec F S88x1024 .f32) (x15 : Vec F S88x1024 .f32) : Vec F S56x1024 .f32 :=
  View.canon [⟨r0_0, k0_pay5 (View.ld x1 r0_0) (View.ld x3 r0_0)⟩]

/-- Its one store covers it. -/
theorem cover0_18 (p0 : Vec F S56x1024 .f32) (y : S56x1024.Idx) :
    ∃ pc ∈ ([⟨r0_0, p0⟩] : List (View.Piece (Elt F) S56x1024 .f32)), y ∈ pc.1.set :=
  View.cover_of_tiled [⟨r0_0, p0⟩] S56x1024.size (by rfl) y

/-- Output 19's block after the body, from the input blocks. -/
def out0_19 (x0 : Vec F S56x1024 .f32) (x1 : Vec F S56x1024 .f32) (x2 : Vec F S56x1024 .f32) (x3 : Vec F S56x1024 .f32) (x4 : Vec F S32x1024 .f32) (x5 : Vec F S32x1024 .f32) (x6 : Vec F S32x1024 .f32) (x7 : Vec F S32x1024 .f32) (x8 : Vec F S176x1024 .f32) (x9 : Vec F S176x1024 .f32) (x10 : Vec F S176x1024 .f32) (x11 : Vec F S176x1024 .f32) (x12 : Vec F S88x1024 .f32) (x13 : Vec F S88x1024 .f32) (x14 : Vec F S88x1024 .f32) (x15 : Vec F S88x1024 .f32) : Vec F S32x1024 .f32 :=
  View.canon [⟨r0_1, k0_pay9 (View.ld x4 r0_1) (View.ld x5 r0_1) (View.ld x6 r0_1) (View.ld x7 r0_1)⟩]

/-- Its one store covers it. -/
theorem cover0_19 (p0 : Vec F S32x1024 .f32) (y : S32x1024.Idx) :
    ∃ pc ∈ ([⟨r0_1, p0⟩] : List (View.Piece (Elt F) S32x1024 .f32)), y ∈ pc.1.set :=
  View.cover_of_tiled [⟨r0_1, p0⟩] S32x1024.size (by rfl) y

/-- Output 20's block after the body, from the input blocks. -/
def out0_20 (x0 : Vec F S56x1024 .f32) (x1 : Vec F S56x1024 .f32) (x2 : Vec F S56x1024 .f32) (x3 : Vec F S56x1024 .f32) (x4 : Vec F S32x1024 .f32) (x5 : Vec F S32x1024 .f32) (x6 : Vec F S32x1024 .f32) (x7 : Vec F S32x1024 .f32) (x8 : Vec F S176x1024 .f32) (x9 : Vec F S176x1024 .f32) (x10 : Vec F S176x1024 .f32) (x11 : Vec F S176x1024 .f32) (x12 : Vec F S88x1024 .f32) (x13 : Vec F S88x1024 .f32) (x14 : Vec F S88x1024 .f32) (x15 : Vec F S88x1024 .f32) : Vec F S32x1024 .f32 :=
  View.canon [⟨r0_1, k0_pay7 (View.ld x5 r0_1) (View.ld x6 r0_1)⟩]

/-- Its one store covers it. -/
theorem cover0_20 (p0 : Vec F S32x1024 .f32) (y : S32x1024.Idx) :
    ∃ pc ∈ ([⟨r0_1, p0⟩] : List (View.Piece (Elt F) S32x1024 .f32)), y ∈ pc.1.set :=
  View.cover_of_tiled [⟨r0_1, p0⟩] S32x1024.size (by rfl) y

/-- Output 21's block after the body, from the input blocks. -/
def out0_21 (x0 : Vec F S56x1024 .f32) (x1 : Vec F S56x1024 .f32) (x2 : Vec F S56x1024 .f32) (x3 : Vec F S56x1024 .f32) (x4 : Vec F S32x1024 .f32) (x5 : Vec F S32x1024 .f32) (x6 : Vec F S32x1024 .f32) (x7 : Vec F S32x1024 .f32) (x8 : Vec F S176x1024 .f32) (x9 : Vec F S176x1024 .f32) (x10 : Vec F S176x1024 .f32) (x11 : Vec F S176x1024 .f32) (x12 : Vec F S88x1024 .f32) (x13 : Vec F S88x1024 .f32) (x14 : Vec F S88x1024 .f32) (x15 : Vec F S88x1024 .f32) : Vec F S32x1024 .f32 :=
  View.canon [⟨r0_1, k0_pay8 (View.ld x5 r0_1) (View.ld x7 r0_1)⟩]

/-- Its one store covers it. -/
theorem cover0_21 (p0 : Vec F S32x1024 .f32) (y : S32x1024.Idx) :
    ∃ pc ∈ ([⟨r0_1, p0⟩] : List (View.Piece (Elt F) S32x1024 .f32)), y ∈ pc.1.set :=
  View.cover_of_tiled [⟨r0_1, p0⟩] S32x1024.size (by rfl) y

/-- Output 22's block after the body, from the input blocks. -/
def out0_22 (x0 : Vec F S56x1024 .f32) (x1 : Vec F S56x1024 .f32) (x2 : Vec F S56x1024 .f32) (x3 : Vec F S56x1024 .f32) (x4 : Vec F S32x1024 .f32) (x5 : Vec F S32x1024 .f32) (x6 : Vec F S32x1024 .f32) (x7 : Vec F S32x1024 .f32) (x8 : Vec F S176x1024 .f32) (x9 : Vec F S176x1024 .f32) (x10 : Vec F S176x1024 .f32) (x11 : Vec F S176x1024 .f32) (x12 : Vec F S88x1024 .f32) (x13 : Vec F S88x1024 .f32) (x14 : Vec F S88x1024 .f32) (x15 : Vec F S88x1024 .f32) : Vec F S176x1024 .f32 :=
  View.canon [⟨r0_2, k0_pay12 (View.ld x8 r0_2) (View.ld x9 r0_2) (View.ld x10 r0_2) (View.ld x11 r0_2)⟩]

/-- Its one store covers it. -/
theorem cover0_22 (p0 : Vec F S176x1024 .f32) (y : S176x1024.Idx) :
    ∃ pc ∈ ([⟨r0_2, p0⟩] : List (View.Piece (Elt F) S176x1024 .f32)), y ∈ pc.1.set :=
  View.cover_of_tiled [⟨r0_2, p0⟩] S176x1024.size (by rfl) y

/-- Output 23's block after the body, from the input blocks. -/
def out0_23 (x0 : Vec F S56x1024 .f32) (x1 : Vec F S56x1024 .f32) (x2 : Vec F S56x1024 .f32) (x3 : Vec F S56x1024 .f32) (x4 : Vec F S32x1024 .f32) (x5 : Vec F S32x1024 .f32) (x6 : Vec F S32x1024 .f32) (x7 : Vec F S32x1024 .f32) (x8 : Vec F S176x1024 .f32) (x9 : Vec F S176x1024 .f32) (x10 : Vec F S176x1024 .f32) (x11 : Vec F S176x1024 .f32) (x12 : Vec F S88x1024 .f32) (x13 : Vec F S88x1024 .f32) (x14 : Vec F S88x1024 .f32) (x15 : Vec F S88x1024 .f32) : Vec F S176x1024 .f32 :=
  View.canon [⟨r0_2, k0_pay10 (View.ld x9 r0_2) (View.ld x10 r0_2)⟩]

/-- Its one store covers it. -/
theorem cover0_23 (p0 : Vec F S176x1024 .f32) (y : S176x1024.Idx) :
    ∃ pc ∈ ([⟨r0_2, p0⟩] : List (View.Piece (Elt F) S176x1024 .f32)), y ∈ pc.1.set :=
  View.cover_of_tiled [⟨r0_2, p0⟩] S176x1024.size (by rfl) y

/-- Output 24's block after the body, from the input blocks. -/
def out0_24 (x0 : Vec F S56x1024 .f32) (x1 : Vec F S56x1024 .f32) (x2 : Vec F S56x1024 .f32) (x3 : Vec F S56x1024 .f32) (x4 : Vec F S32x1024 .f32) (x5 : Vec F S32x1024 .f32) (x6 : Vec F S32x1024 .f32) (x7 : Vec F S32x1024 .f32) (x8 : Vec F S176x1024 .f32) (x9 : Vec F S176x1024 .f32) (x10 : Vec F S176x1024 .f32) (x11 : Vec F S176x1024 .f32) (x12 : Vec F S88x1024 .f32) (x13 : Vec F S88x1024 .f32) (x14 : Vec F S88x1024 .f32) (x15 : Vec F S88x1024 .f32) : Vec F S176x1024 .f32 :=
  View.canon [⟨r0_2, k0_pay11 (View.ld x9 r0_2) (View.ld x11 r0_2)⟩]

/-- Its one store covers it. -/
theorem cover0_24 (p0 : Vec F S176x1024 .f32) (y : S176x1024.Idx) :
    ∃ pc ∈ ([⟨r0_2, p0⟩] : List (View.Piece (Elt F) S176x1024 .f32)), y ∈ pc.1.set :=
  View.cover_of_tiled [⟨r0_2, p0⟩] S176x1024.size (by rfl) y

/-- Output 25's block after the body, from the input blocks. -/
def out0_25 (x0 : Vec F S56x1024 .f32) (x1 : Vec F S56x1024 .f32) (x2 : Vec F S56x1024 .f32) (x3 : Vec F S56x1024 .f32) (x4 : Vec F S32x1024 .f32) (x5 : Vec F S32x1024 .f32) (x6 : Vec F S32x1024 .f32) (x7 : Vec F S32x1024 .f32) (x8 : Vec F S176x1024 .f32) (x9 : Vec F S176x1024 .f32) (x10 : Vec F S176x1024 .f32) (x11 : Vec F S176x1024 .f32) (x12 : Vec F S88x1024 .f32) (x13 : Vec F S88x1024 .f32) (x14 : Vec F S88x1024 .f32) (x15 : Vec F S88x1024 .f32) : Vec F S88x1024 .f32 :=
  View.canon [⟨r0_3, k0_pay3 (View.ld x12 r0_3) (View.ld x13 r0_3) (View.ld x14 r0_3) (View.ld x15 r0_3)⟩]

/-- Its one store covers it. -/
theorem cover0_25 (p0 : Vec F S88x1024 .f32) (y : S88x1024.Idx) :
    ∃ pc ∈ ([⟨r0_3, p0⟩] : List (View.Piece (Elt F) S88x1024 .f32)), y ∈ pc.1.set :=
  View.cover_of_tiled [⟨r0_3, p0⟩] S88x1024.size (by rfl) y

/-- Output 26's block after the body, from the input blocks. -/
def out0_26 (x0 : Vec F S56x1024 .f32) (x1 : Vec F S56x1024 .f32) (x2 : Vec F S56x1024 .f32) (x3 : Vec F S56x1024 .f32) (x4 : Vec F S32x1024 .f32) (x5 : Vec F S32x1024 .f32) (x6 : Vec F S32x1024 .f32) (x7 : Vec F S32x1024 .f32) (x8 : Vec F S176x1024 .f32) (x9 : Vec F S176x1024 .f32) (x10 : Vec F S176x1024 .f32) (x11 : Vec F S176x1024 .f32) (x12 : Vec F S88x1024 .f32) (x13 : Vec F S88x1024 .f32) (x14 : Vec F S88x1024 .f32) (x15 : Vec F S88x1024 .f32) : Vec F S88x1024 .f32 :=
  View.canon [⟨r0_3, k0_pay1 (View.ld x13 r0_3) (View.ld x14 r0_3)⟩]

/-- Its one store covers it. -/
theorem cover0_26 (p0 : Vec F S88x1024 .f32) (y : S88x1024.Idx) :
    ∃ pc ∈ ([⟨r0_3, p0⟩] : List (View.Piece (Elt F) S88x1024 .f32)), y ∈ pc.1.set :=
  View.cover_of_tiled [⟨r0_3, p0⟩] S88x1024.size (by rfl) y

/-- Output 27's block after the body, from the input blocks. -/
def out0_27 (x0 : Vec F S56x1024 .f32) (x1 : Vec F S56x1024 .f32) (x2 : Vec F S56x1024 .f32) (x3 : Vec F S56x1024 .f32) (x4 : Vec F S32x1024 .f32) (x5 : Vec F S32x1024 .f32) (x6 : Vec F S32x1024 .f32) (x7 : Vec F S32x1024 .f32) (x8 : Vec F S176x1024 .f32) (x9 : Vec F S176x1024 .f32) (x10 : Vec F S176x1024 .f32) (x11 : Vec F S176x1024 .f32) (x12 : Vec F S88x1024 .f32) (x13 : Vec F S88x1024 .f32) (x14 : Vec F S88x1024 .f32) (x15 : Vec F S88x1024 .f32) : Vec F S88x1024 .f32 :=
  View.canon [⟨r0_3, k0_pay2 (View.ld x13 r0_3) (View.ld x15 r0_3)⟩]

/-- Its one store covers it. -/
theorem cover0_27 (p0 : Vec F S88x1024 .f32) (y : S88x1024.Idx) :
    ∃ pc ∈ ([⟨r0_3, p0⟩] : List (View.Piece (Elt F) S88x1024 .f32)), y ∈ pc.1.set :=
  View.cover_of_tiled [⟨r0_3, p0⟩] S88x1024.size (by rfl) y

/-! ## The body's triple -/

set_option maxHeartbeats 1000000 in
/-- The body, on input blocks `x0`, `x1`, … and outputs at anything, leaves the inputs as they were and each output at its `out0`. -/
theorem sound_kernel (c : Dev nD) (E : Set ℕ) (i : grid0.Coords) (arg1 : Memref sig .tc .vmem S56x1024 .f32) (harg1 : arg1.IsWhole) (arg2 : Memref sig .tc .vmem S56x1024 .f32) (harg2 : arg2.IsWhole) (arg3 : Memref sig .tc .vmem S56x1024 .f32) (harg3 : arg3.IsWhole) (arg4 : Memref sig .tc .vmem S56x1024 .f32) (harg4 : arg4.IsWhole) (arg5 : Memref sig .tc .vmem S32x1024 .f32) (harg5 : arg5.IsWhole) (arg6 : Memref sig .tc .vmem S32x1024 .f32) (harg6 : arg6.IsWhole) (arg7 : Memref sig .tc .vmem S32x1024 .f32) (harg7 : arg7.IsWhole) (arg8 : Memref sig .tc .vmem S32x1024 .f32) (harg8 : arg8.IsWhole) (arg9 : Memref sig .tc .vmem S176x1024 .f32) (harg9 : arg9.IsWhole) (arg10 : Memref sig .tc .vmem S176x1024 .f32) (harg10 : arg10.IsWhole) (arg11 : Memref sig .tc .vmem S176x1024 .f32) (harg11 : arg11.IsWhole) (arg12 : Memref sig .tc .vmem S176x1024 .f32) (harg12 : arg12.IsWhole) (arg13 : Memref sig .tc .vmem S88x1024 .f32) (harg13 : arg13.IsWhole) (arg14 : Memref sig .tc .vmem S88x1024 .f32) (harg14 : arg14.IsWhole) (arg15 : Memref sig .tc .vmem S88x1024 .f32) (harg15 : arg15.IsWhole) (arg16 : Memref sig .tc .vmem S88x1024 .f32) (harg16 : arg16.IsWhole) (arg17 : Memref sig .tc .vmem S56x1024 .f32) (harg17 : arg17.IsWhole) (arg18 : Memref sig .tc .vmem S56x1024 .f32) (harg18 : arg18.IsWhole) (arg19 : Memref sig .tc .vmem S56x1024 .f32) (harg19 : arg19.IsWhole) (arg20 : Memref sig .tc .vmem S32x1024 .f32) (harg20 : arg20.IsWhole) (arg21 : Memref sig .tc .vmem S32x1024 .f32) (harg21 : arg21.IsWhole) (arg22 : Memref sig .tc .vmem S32x1024 .f32) (harg22 : arg22.IsWhole) (arg23 : Memref sig .tc .vmem S176x1024 .f32) (harg23 : arg23.IsWhole) (arg24 : Memref sig .tc .vmem S176x1024 .f32) (harg24 : arg24.IsWhole) (arg25 : Memref sig .tc .vmem S176x1024 .f32) (harg25 : arg25.IsWhole) (arg26 : Memref sig .tc .vmem S88x1024 .f32) (harg26 : arg26.IsWhole) (arg27 : Memref sig .tc .vmem S88x1024 .f32) (harg27 : arg27.IsWhole) (arg28 : Memref sig .tc .vmem S88x1024 .f32) (harg28 : arg28.IsWhole)
    (x0 : Vec F S56x1024 .f32) (x1 : Vec F S56x1024 .f32) (x2 : Vec F S56x1024 .f32) (x3 : Vec F S56x1024 .f32) (x4 : Vec F S32x1024 .f32) (x5 : Vec F S32x1024 .f32) (x6 : Vec F S32x1024 .f32) (x7 : Vec F S32x1024 .f32) (x8 : Vec F S176x1024 .f32) (x9 : Vec F S176x1024 .f32) (x10 : Vec F S176x1024 .f32) (x11 : Vec F S176x1024 .f32) (x12 : Vec F S88x1024 .f32) (x13 : Vec F S88x1024 .f32) (x14 : Vec F S88x1024 .f32) (x15 : Vec F S88x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare (out0_16 x0 x1 x2 x3 x4 x5 x6 x7 x8 x9 x10 x11 x12 x13 x14 x15) ∗ owns (c : Thread nD τ) arg18 fullShare (out0_17 x0 x1 x2 x3 x4 x5 x6 x7 x8 x9 x10 x11 x12 x13 x14 x15) ∗ owns (c : Thread nD τ) arg19 fullShare (out0_18 x0 x1 x2 x3 x4 x5 x6 x7 x8 x9 x10 x11 x12 x13 x14 x15) ∗ owns (c : Thread nD τ) arg20 fullShare (out0_19 x0 x1 x2 x3 x4 x5 x6 x7 x8 x9 x10 x11 x12 x13 x14 x15) ∗ owns (c : Thread nD τ) arg21 fullShare (out0_20 x0 x1 x2 x3 x4 x5 x6 x7 x8 x9 x10 x11 x12 x13 x14 x15) ∗ owns (c : Thread nD τ) arg22 fullShare (out0_21 x0 x1 x2 x3 x4 x5 x6 x7 x8 x9 x10 x11 x12 x13 x14 x15) ∗ owns (c : Thread nD τ) arg23 fullShare (out0_22 x0 x1 x2 x3 x4 x5 x6 x7 x8 x9 x10 x11 x12 x13 x14 x15) ∗ owns (c : Thread nD τ) arg24 fullShare (out0_23 x0 x1 x2 x3 x4 x5 x6 x7 x8 x9 x10 x11 x12 x13 x14 x15) ∗ owns (c : Thread nD τ) arg25 fullShare (out0_24 x0 x1 x2 x3 x4 x5 x6 x7 x8 x9 x10 x11 x12 x13 x14 x15) ∗ owns (c : Thread nD τ) arg26 fullShare (out0_25 x0 x1 x2 x3 x4 x5 x6 x7 x8 x9 x10 x11 x12 x13 x14 x15) ∗ owns (c : Thread nD τ) arg27 fullShare (out0_26 x0 x1 x2 x3 x4 x5 x6 x7 x8 x9 x10 x11 x12 x13 x14 x15) ∗ owns (c : Thread nD τ) arg28 fullShare (out0_27 x0 x1 x2 x3 x4 x5 x6 x7 x8 x9 x10 x11 x12 x13 x14 x15)) -∗ K ⟨⟩))
      ⊢ wp frame (wpE (defs₀ (F := F)) Variants.none c none) E (cc0_adamw_big i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  simp only [cc0_adamw_big_eq_skeleton]; unfold cc0_adamw_big_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    exact View.read_writes_eq_canon _ _ _ (cover0_16 _)
  isplitl [H17]
  · iexists _; isplitr
    swap; · iexact H17
    ipureintro
    exact View.read_writes_eq_canon _ _ _ (cover0_17 _)
  isplitl [H18]
  · iexists _; isplitr
    swap; · iexact H18
    ipureintro
    exact View.read_writes_eq_canon _ _ _ (cover0_18 _)
  isplitl [H19]
  · iexists _; isplitr
    swap; · iexact H19
    ipureintro
    exact View.read_writes_eq_canon _ _ _ (cover0_19 _)
  isplitl [H20]
  · iexists _; isplitr
    swap; · iexact H20
    ipureintro
    exact View.read_writes_eq_canon _ _ _ (cover0_20 _)
  isplitl [H21]
  · iexists _; isplitr
    swap; · iexact H21
    ipureintro
    exact View.read_writes_eq_canon _ _ _ (cover0_21 _)
  isplitl [H22]
  · iexists _; isplitr
    swap; · iexact H22
    ipureintro
    exact View.read_writes_eq_canon _ _ _ (cover0_22 _)
  isplitl [H23]
  · iexists _; isplitr
    swap; · iexact H23
    ipureintro
    exact View.read_writes_eq_canon _ _ _ (cover0_23 _)
  isplitl [H24]
  · iexists _; isplitr
    swap; · iexact H24
    ipureintro
    exact View.read_writes_eq_canon _ _ _ (cover0_24 _)
  isplitl [H25]
  · iexists _; isplitr
    swap; · iexact H25
    ipureintro
    exact View.read_writes_eq_canon _ _ _ (cover0_25 _)
  isplitl [H26]
  · iexists _; isplitr
    swap; · iexact H26
    ipureintro
    exact View.read_writes_eq_canon _ _ _ (cover0_26 _)
  iexists _; isplitr
  swap; · iexact H27
  ipureintro
  exact View.read_writes_eq_canon _ _ _ (cover0_27 _)

/-! ## The pipeline's proof data -/

/-- The call's proof data on core `c`: its arrays as the call finds them, each input's buffer at its block and each output's at its
    `out0` of the input blocks after every point; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨26, _⟩ => out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨27, _⟩ => out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨_ + 28, h⟩ => absurd h (Nat.not_lt.2 (Nat.le_add_left _ _))
  Φ _ := Pipeline.ΦA spec0 c
  q _ := fullShare
  owed _ := 0

/-- The proof data's arrays are what the call finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_26 (c : Dev nD) (t : Fin cfg0.N) : (dats m 0 c).after 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_27 (c : Dev nD) (t : Fin cfg0.N) : (dats m 0 c).after 27 t = out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]

/-- Each input's staging buffer holds its block at every point. -/
theorem before0_0 (c : Dev nD) (t : Fin cfg0.N) (d) : (dats m 0 c).before 0 t d = iblk m c 0 t :=
  (before_of m (dats m 0 c) 0 (A_eq m c 0) rfl (fun _ => rfl) (fun _ _ _ => rfl) (after0_0 m c) t d).trans
    (by unfold Dat.fetched Dat.blockOf iblk; rw [A_eq]; try rfl)
theorem before0_1 (c : Dev nD) (t : Fin cfg0.N) (d) : (dats m 0 c).before 1 t d = iblk m c 1 t :=
  (before_of m (dats m 0 c) 1 (A_eq m c 1) rfl (fun _ => rfl) (fun _ _ _ => rfl) (after0_1 m c) t d).trans
    (by unfold Dat.fetched Dat.blockOf iblk; rw [A_eq]; try rfl)
theorem before0_2 (c : Dev nD) (t : Fin cfg0.N) (d) : (dats m 0 c).before 2 t d = iblk m c 2 t :=
  (before_of m (dats m 0 c) 2 (A_eq m c 2) rfl (fun _ => rfl) (fun _ _ _ => rfl) (after0_2 m c) t d).trans
    (by unfold Dat.fetched Dat.blockOf iblk; rw [A_eq]; try rfl)
theorem before0_3 (c : Dev nD) (t : Fin cfg0.N) (d) : (dats m 0 c).before 3 t d = iblk m c 3 t :=
  (before_of m (dats m 0 c) 3 (A_eq m c 3) rfl (fun _ => rfl) (fun _ _ _ => rfl) (after0_3 m c) t d).trans
    (by unfold Dat.fetched Dat.blockOf iblk; rw [A_eq]; try rfl)
theorem before0_4 (c : Dev nD) (t : Fin cfg0.N) (d) : (dats m 0 c).before 4 t d = iblk m c 4 t :=
  (before_of m (dats m 0 c) 4 (A_eq m c 4) rfl (fun _ => rfl) (fun _ _ _ => rfl) (after0_4 m c) t d).trans
    (by unfold Dat.fetched Dat.blockOf iblk; rw [A_eq]; try rfl)
theorem before0_5 (c : Dev nD) (t : Fin cfg0.N) (d) : (dats m 0 c).before 5 t d = iblk m c 5 t :=
  (before_of m (dats m 0 c) 5 (A_eq m c 5) rfl (fun _ => rfl) (fun _ _ _ => rfl) (after0_5 m c) t d).trans
    (by unfold Dat.fetched Dat.blockOf iblk; rw [A_eq]; try rfl)
theorem before0_6 (c : Dev nD) (t : Fin cfg0.N) (d) : (dats m 0 c).before 6 t d = iblk m c 6 t :=
  (before_of m (dats m 0 c) 6 (A_eq m c 6) rfl (fun _ => rfl) (fun _ _ _ => rfl) (after0_6 m c) t d).trans
    (by unfold Dat.fetched Dat.blockOf iblk; rw [A_eq]; try rfl)
theorem before0_7 (c : Dev nD) (t : Fin cfg0.N) (d) : (dats m 0 c).before 7 t d = iblk m c 7 t :=
  (before_of m (dats m 0 c) 7 (A_eq m c 7) rfl (fun _ => rfl) (fun _ _ _ => rfl) (after0_7 m c) t d).trans
    (by unfold Dat.fetched Dat.blockOf iblk; rw [A_eq]; try rfl)
theorem before0_8 (c : Dev nD) (t : Fin cfg0.N) (d) : (dats m 0 c).before 8 t d = iblk m c 8 t :=
  (before_of m (dats m 0 c) 8 (A_eq m c 8) rfl (fun _ => rfl) (fun _ _ _ => rfl) (after0_8 m c) t d).trans
    (by unfold Dat.fetched Dat.blockOf iblk; rw [A_eq]; try rfl)
theorem before0_9 (c : Dev nD) (t : Fin cfg0.N) (d) : (dats m 0 c).before 9 t d = iblk m c 9 t :=
  (before_of m (dats m 0 c) 9 (A_eq m c 9) rfl (fun _ => rfl) (fun _ _ _ => rfl) (after0_9 m c) t d).trans
    (by unfold Dat.fetched Dat.blockOf iblk; rw [A_eq]; try rfl)
theorem before0_10 (c : Dev nD) (t : Fin cfg0.N) (d) : (dats m 0 c).before 10 t d = iblk m c 10 t :=
  (before_of m (dats m 0 c) 10 (A_eq m c 10) rfl (fun _ => rfl) (fun _ _ _ => rfl) (after0_10 m c) t d).trans
    (by unfold Dat.fetched Dat.blockOf iblk; rw [A_eq]; try rfl)
theorem before0_11 (c : Dev nD) (t : Fin cfg0.N) (d) : (dats m 0 c).before 11 t d = iblk m c 11 t :=
  (before_of m (dats m 0 c) 11 (A_eq m c 11) rfl (fun _ => rfl) (fun _ _ _ => rfl) (after0_11 m c) t d).trans
    (by unfold Dat.fetched Dat.blockOf iblk; rw [A_eq]; try rfl)
theorem before0_12 (c : Dev nD) (t : Fin cfg0.N) (d) : (dats m 0 c).before 12 t d = iblk m c 12 t :=
  (before_of m (dats m 0 c) 12 (A_eq m c 12) rfl (fun _ => rfl) (fun _ _ _ => rfl) (after0_12 m c) t d).trans
    (by unfold Dat.fetched Dat.blockOf iblk; rw [A_eq]; try rfl)
theorem before0_13 (c : Dev nD) (t : Fin cfg0.N) (d) : (dats m 0 c).before 13 t d = iblk m c 13 t :=
  (before_of m (dats m 0 c) 13 (A_eq m c 13) rfl (fun _ => rfl) (fun _ _ _ => rfl) (after0_13 m c) t d).trans
    (by unfold Dat.fetched Dat.blockOf iblk; rw [A_eq]; try rfl)
theorem before0_14 (c : Dev nD) (t : Fin cfg0.N) (d) : (dats m 0 c).before 14 t d = iblk m c 14 t :=
  (before_of m (dats m 0 c) 14 (A_eq m c 14) rfl (fun _ => rfl) (fun _ _ _ => rfl) (after0_14 m c) t d).trans
    (by unfold Dat.fetched Dat.blockOf iblk; rw [A_eq]; try rfl)
theorem before0_15 (c : Dev nD) (t : Fin cfg0.N) (d) : (dats m 0 c).before 15 t d = iblk m c 15 t :=
  (before_of m (dats m 0 c) 15 (A_eq m c 15) rfl (fun _ => rfl) (fun _ _ _ => rfl) (after0_15 m c) t d).trans
    (by unfold Dat.fetched Dat.blockOf iblk; rw [A_eq]; try rfl)

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t))

set_option maxHeartbeats 2000000 in
/-- The body at any point runs from the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  iintro ⟨H0, H1, H2, H3, H4, H5, H6, H7, H8, H9, H10, H11, H12, H13, H14, H15, H16, H17, H18, H19, H20, H21, H22, H23, H24, H25, H26, H27⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iexact H27

/-- The body as point `t` calls it. -/
theorem defs₀_row (t : Fin cfg0.N) :
    defs₀ (F := F) .tc cfg0.body (cfg0.bodyArgs t (cfg0.slots t)) = bodyAt0 t := by
  unfold defs₀; rw [Defs.onTc_tc]

set_option maxHeartbeats 2000000 in
/-- The same as the pipeline's rule asks for it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every run ends, with the arrays as the proof data say and every semaphore at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The same without the semaphores. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (A_eq m) (run_main m ρ)

/-- The arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (unchanged m ρ) ((θ_run defs _ _).mono (fun _ h => h.2) (run_main_quiescent m ρ))

end Cert.Kernel8Ideal.Gen

end
-- ==== Proof.AdamSpec.lean ====
module

public import Idealize.ShloMosaic.Lib.Pointwise

@[expose] public section

set_option maxRecDepth 16384

noncomputable section

/-!
One step of the optimiser on one number of a weight: the weight `w`, its gradient `g`, and its two running averages `m` and `v`.
-/

namespace Cert.Adam

open Idealize.ShloMosaic

/-- The average of the gradients after the step. -/
def newM (g m : EReal) : EReal := Ideal.ofBits .f32 0x3F666666#32 * m + Ideal.ofBits .f32 0x3DCCCCCD#32 * g
/-- The average of the squared gradients after the step. -/
def newV (g v : EReal) : EReal := Ideal.ofBits .f32 0x3F7FBE77#32 * v + Ideal.ofBits .f32 0x3A83126F#32 * (g * g)
/-- What the step adds to the weight. -/
def delta (w g m v : EReal) : EReal :=
  Ideal.ofBits .f32 0xBA83126F#32
    * (Ideal.div (Ideal.div (newM g m) (Ideal.ofBits .f32 0x3F26BD02#32))
        (Ideal.sqrt (Ideal.div (newV g v) (Ideal.ofBits .f32 0x3C231ACC#32)) + Ideal.ofBits .f32 0x322BCC77#32)
      + Ideal.ofBits .f32 0x3C23D70A#32 * w)

end Cert.Adam

end
-- ==== Proof.AdamRun.lean ====
module

public import proofs.«01_k».proof.Proof.Gen.Kernel8Ideal
public import proofs.«01_k».proof.Proof.AdamFrame
public import Idealize.ShloMosaic.Lib.StableHlo.Run
public import Idealize.ShloMosaic.Lib.Pipeline.FrameSuffix

@[expose] public section

noncomputable section

/-! The results of the optimiser's call on the four large weights, from what the call leaves in its arrays. -/

namespace Cert.Kernel8Ideal.Value

open Cert.Kernel8Ideal Cert.Kernel8Ideal.Gen Idealize.ShloMosaic Idealize.ShloMosaic.TcCoe Idealize.SL.Sem Idealize.ShloMosaic.StableHlo

variable {F : FTy → Type} [FloatOps F]

variable (m : (ℓ : Loc nD τ sig) → Buf (Elt F) ℓ)

/-- Core `c`'s buffers when the call is left. -/
abbrev exitV (c : Dev nD) : Valuation τ sig (Elt F) :=
  Pipeline.withArrays spec0 c (Gen.V0 m c) fun w => (Gen.dats m 0 c).arrAt w cfg0.N

def reg_main_v6_0 (c : Dev nD) : Buf (Elt F) ((c.tc : Thread nD τ).loc main_v6_0) := (Gen.dats m 0 c).arrAt 16 cfg0.N
def reg_main_v6_1 (c : Dev nD) : Buf (Elt F) ((c.tc : Thread nD τ).loc main_v6_1) := (Gen.dats m 0 c).arrAt 17 cfg0.N
def reg_main_v6_2 (c : Dev nD) : Buf (Elt F) ((c.tc : Thread nD τ).loc main_v6_2) := (Gen.dats m 0 c).arrAt 18 cfg0.N
def reg_main_v6_3 (c : Dev nD) : Buf (Elt F) ((c.tc : Thread nD τ).loc main_v6_3) := (Gen.dats m 0 c).arrAt 19 cfg0.N
def reg_main_v6_4 (c : Dev nD) : Buf (Elt F) ((c.tc : Thread nD τ).loc main_v6_4) := (Gen.dats m 0 c).arrAt 20 cfg0.N
def reg_main_v6_5 (c : Dev nD) : Buf (Elt F) ((c.tc : Thread nD τ).loc main_v6_5) := (Gen.dats m 0 c).arrAt 21 cfg0.N
def reg_main_v6_6 (c : Dev nD) : Buf (Elt F) ((c.tc : Thread nD τ).loc main_v6_6) := (Gen.dats m 0 c).arrAt 22 cfg0.N
def reg_main_v6_7 (c : Dev nD) : Buf (Elt F) ((c.tc : Thread nD τ).loc main_v6_7) := (Gen.dats m 0 c).arrAt 23 cfg0.N
def reg_main_v6_8 (c : Dev nD) : Buf (Elt F) ((c.tc : Thread nD τ).loc main_v6_8) := (Gen.dats m 0 c).arrAt 24 cfg0.N
def reg_main_v6_9 (c : Dev nD) : Buf (Elt F) ((c.tc : Thread nD τ).loc main_v6_9) := (Gen.dats m 0 c).arrAt 25 cfg0.N
def reg_main_v6_10 (c : Dev nD) : Buf (Elt F) ((c.tc : Thread nD τ).loc main_v6_10) := (Gen.dats m 0 c).arrAt 26 cfg0.N
def reg_main_v6_11 (c : Dev nD) : Buf (Elt F) ((c.tc : Thread nD τ).loc main_v6_11) := (Gen.dats m 0 c).arrAt 27 cfg0.N

theorem exit_main_v6_0 (c : Dev nD) : exitV m c (Proc.devRef .tc main_v6_0) = reg_main_v6_0 m c :=
  Pipeline.withArrays_arr spec0 Gen.launch0.win.arr_inj c (Gen.V0 m c) _ 16
theorem exit_main_v6_1 (c : Dev nD) : exitV m c (Proc.devRef .tc main_v6_1) = reg_main_v6_1 m c :=
  Pipeline.withArrays_arr spec0 Gen.launch0.win.arr_inj c (Gen.V0 m c) _ 17
theorem exit_main_v6_2 (c : Dev nD) : exitV m c (Proc.devRef .tc main_v6_2) = reg_main_v6_2 m c :=
  Pipeline.withArrays_arr spec0 Gen.launch0.win.arr_inj c (Gen.V0 m c) _ 18
theorem exit_main_v6_6 (c : Dev nD) : exitV m c (Proc.devRef .tc main_v6_6) = reg_main_v6_6 m c :=
  Pipeline.withArrays_arr spec0 Gen.launch0.win.arr_inj c (Gen.V0 m c) _ 22
theorem exit_main_v6_7 (c : Dev nD) : exitV m c (Proc.devRef .tc main_v6_7) = reg_main_v6_7 m c :=
  Pipeline.withArrays_arr spec0 Gen.launch0.win.arr_inj c (Gen.V0 m c) _ 23
theorem exit_main_v6_8 (c : Dev nD) : exitV m c (Proc.devRef .tc main_v6_8) = reg_main_v6_8 m c :=
  Pipeline.withArrays_arr spec0 Gen.launch0.win.arr_inj c (Gen.V0 m c) _ 24
theorem exit_main_v6_3 (c : Dev nD) : exitV m c (Proc.devRef .tc main_v6_3) = reg_main_v6_3 m c :=
  Pipeline.withArrays_arr spec0 Gen.launch0.win.arr_inj c (Gen.V0 m c) _ 19
theorem exit_main_v6_4 (c : Dev nD) : exitV m c (Proc.devRef .tc main_v6_4) = reg_main_v6_4 m c :=
  Pipeline.withArrays_arr spec0 Gen.launch0.win.arr_inj c (Gen.V0 m c) _ 20
theorem exit_main_v6_5 (c : Dev nD) : exitV m c (Proc.devRef .tc main_v6_5) = reg_main_v6_5 m c :=
  Pipeline.withArrays_arr spec0 Gen.launch0.win.arr_inj c (Gen.V0 m c) _ 21
theorem exit_main_v6_9 (c : Dev nD) : exitV m c (Proc.devRef .tc main_v6_9) = reg_main_v6_9 m c :=
  Pipeline.withArrays_arr spec0 Gen.launch0.win.arr_inj c (Gen.V0 m c) _ 25
theorem exit_main_v6_10 (c : Dev nD) : exitV m c (Proc.devRef .tc main_v6_10) = reg_main_v6_10 m c :=
  Pipeline.withArrays_arr spec0 Gen.launch0.win.arr_inj c (Gen.V0 m c) _ 26
theorem exit_main_v6_11 (c : Dev nD) : exitV m c (Proc.devRef .tc main_v6_11) = reg_main_v6_11 m c :=
  Pipeline.withArrays_arr spec0 Gen.launch0.win.arr_inj c (Gen.V0 m c) _ 27

/-- The operations after the call, read at result `main_v7`. -/
theorem tail_main_v7 (V0 : Valuation τ sig (Elt F)) :
    after (List.flatten [Gen.hostOps1]) V0 (Proc.devRef .tc main_v7) = transpose S1024x224 [1, 0] (V0 (Proc.devRef .tc main_v6_0)) transposes_S224x1024_S1024x224_1_0 := by
  simp only [Gen.hostOps1, List.flatten_cons, List.flatten_nil, List.append_nil, List.cons_append, List.nil_append]
  after_results
/-- And from what the call leaves. -/
theorem fin_main_v7 (c : Dev nD) :
    Pipeline.afterTail₀ cfgs (Gen.dats m) 0 (Gen.V0 m) [Gen.hostOps1] c main_v7 = transpose S1024x224 [1, 0] (reg_main_v6_0 m c) transposes_S224x1024_S1024x224_1_0 :=
  (tail_main_v7 (exitV m c)).trans (by rw [exit_main_v6_0])

/-- The operations after the call, read at result `main_v8`. -/
theorem tail_main_v8 (V0 : Valuation τ sig (Elt F)) :
    after (List.flatten [Gen.hostOps1]) V0 (Proc.devRef .tc main_v8) = transpose S1024x224 [1, 0] (V0 (Proc.devRef .tc main_v6_1)) transposes_S224x1024_S1024x224_1_0 := by
  simp only [Gen.hostOps1, List.flatten_cons, List.flatten_nil, List.append_nil, List.cons_append, List.nil_append]
  after_results
/-- And from what the call leaves. -/
theorem fin_main_v8 (c : Dev nD) :
    Pipeline.afterTail₀ cfgs (Gen.dats m) 0 (Gen.V0 m) [Gen.hostOps1] c main_v8 = transpose S1024x224 [1, 0] (reg_main_v6_1 m c) transposes_S224x1024_S1024x224_1_0 :=
  (tail_main_v8 (exitV m c)).trans (by rw [exit_main_v6_1])

/-- The operations after the call, read at result `main_v9`. -/
theorem tail_main_v9 (V0 : Valuation τ sig (Elt F)) :
    after (List.flatten [Gen.hostOps1]) V0 (Proc.devRef .tc main_v9) = transpose S1024x224 [1, 0] (V0 (Proc.devRef .tc main_v6_2)) transposes_S224x1024_S1024x224_1_0 := by
  simp only [Gen.hostOps1, List.flatten_cons, List.flatten_nil, List.append_nil, List.cons_append, List.nil_append]
  after_results
/-- And from what the call leaves. -/
theorem fin_main_v9 (c : Dev nD) :
    Pipeline.afterTail₀ cfgs (Gen.dats m) 0 (Gen.V0 m) [Gen.hostOps1] c main_v9 = transpose S1024x224 [1, 0] (reg_main_v6_2 m c) transposes_S224x1024_S1024x224_1_0 :=
  (tail_main_v9 (exitV m c)).trans (by rw [exit_main_v6_2])

/-- The operations after the call, read at result `main_v10`. -/
theorem tail_main_v10 (V0 : Valuation τ sig (Elt F)) :
    after (List.flatten [Gen.hostOps1]) V0 (Proc.devRef .tc main_v10) = transpose S1024x704 [1, 0] (V0 (Proc.devRef .tc main_v6_6)) transposes_S704x1024_S1024x704_1_0 := by
  simp only [Gen.hostOps1, List.flatten_cons, List.flatten_nil, List.append_nil, List.cons_append, List.nil_append]
  after_results
/-- And from what the call leaves. -/
theorem fin_main_v10 (c : Dev nD) :
    Pipeline.afterTail₀ cfgs (Gen.dats m) 0 (Gen.V0 m) [Gen.hostOps1] c main_v10 = transpose S1024x704 [1, 0] (reg_main_v6_6 m c) transposes_S704x1024_S1024x704_1_0 :=
  (tail_main_v10 (exitV m c)).trans (by rw [exit_main_v6_6])

/-- The operations after the call, read at result `main_v11`. -/
theorem tail_main_v11 (V0 : Valuation τ sig (Elt F)) :
    after (List.flatten [Gen.hostOps1]) V0 (Proc.devRef .tc main_v11) = transpose S1024x704 [1, 0] (V0 (Proc.devRef .tc main_v6_7)) transposes_S704x1024_S1024x704_1_0 := by
  simp only [Gen.hostOps1, List.flatten_cons, List.flatten_nil, List.append_nil, List.cons_append, List.nil_append]
  after_results
/-- And from what the call leaves. -/
theorem fin_main_v11 (c : Dev nD) :
    Pipeline.afterTail₀ cfgs (Gen.dats m) 0 (Gen.V0 m) [Gen.hostOps1] c main_v11 = transpose S1024x704 [1, 0] (reg_main_v6_7 m c) transposes_S704x1024_S1024x704_1_0 :=
  (tail_main_v11 (exitV m c)).trans (by rw [exit_main_v6_7])

/-- The operations after the call, read at result `main_v12`. -/
theorem tail_main_v12 (V0 : Valuation τ sig (Elt F)) :
    after (List.flatten [Gen.hostOps1]) V0 (Proc.devRef .tc main_v12) = transpose S1024x704 [1, 0] (V0 (Proc.devRef .tc main_v6_8)) transposes_S704x1024_S1024x704_1_0 := by
  simp only [Gen.hostOps1, List.flatten_cons, List.flatten_nil, List.append_nil, List.cons_append, List.nil_append]
  after_results
/-- And from what the call leaves. -/
theorem fin_main_v12 (c : Dev nD) :
    Pipeline.afterTail₀ cfgs (Gen.dats m) 0 (Gen.V0 m) [Gen.hostOps1] c main_v12 = transpose S1024x704 [1, 0] (reg_main_v6_8 m c) transposes_S704x1024_S1024x704_1_0 :=
  (tail_main_v12 (exitV m c)).trans (by rw [exit_main_v6_8])

set_option maxHeartbeats 1680000 in
/-- Every run ends with the results that the call's arrays give, and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v7) = transpose S1024x224 [1, 0] (reg_main_v6_0 m c) transposes_S224x1024_S1024x224_1_0
      ∧ r.2.mem ((c.tc : Thread nD τ).loc main_v8) = transpose S1024x224 [1, 0] (reg_main_v6_1 m c) transposes_S224x1024_S1024x224_1_0
      ∧ r.2.mem ((c.tc : Thread nD τ).loc main_v9) = transpose S1024x224 [1, 0] (reg_main_v6_2 m c) transposes_S224x1024_S1024x224_1_0
      ∧ r.2.mem ((c.tc : Thread nD τ).loc main_v6_3) = reg_main_v6_3 m c
      ∧ r.2.mem ((c.tc : Thread nD τ).loc main_v6_4) = reg_main_v6_4 m c
      ∧ r.2.mem ((c.tc : Thread nD τ).loc main_v6_5) = reg_main_v6_5 m c
      ∧ r.2.mem ((c.tc : Thread nD τ).loc main_v10) = transpose S1024x704 [1, 0] (reg_main_v6_6 m c) transposes_S704x1024_S1024x704_1_0
      ∧ r.2.mem ((c.tc : Thread nD τ).loc main_v11) = transpose S1024x704 [1, 0] (reg_main_v6_7 m c) transposes_S704x1024_S1024x704_1_0
      ∧ r.2.mem ((c.tc : Thread nD τ).loc main_v12) = transpose S1024x704 [1, 0] (reg_main_v6_8 m c) transposes_S704x1024_S1024x704_1_0
      ∧ r.2.mem ((c.tc : Thread nD τ).loc main_v6_9) = reg_main_v6_9 m c
      ∧ r.2.mem ((c.tc : Thread nD τ).loc main_v6_10) = reg_main_v6_10 m c
      ∧ r.2.mem ((c.tc : Thread nD τ).loc main_v6_11) = reg_main_v6_11 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨((h c).2 main_v7 (Pipeline.mem_restRefs_of main_v7 (by decide) (by decide))).trans (fin_main_v7 m c),
      ((h c).2 main_v8 (Pipeline.mem_restRefs_of main_v8 (by decide) (by decide))).trans (fin_main_v8 m c),
      ((h c).2 main_v9 (Pipeline.mem_restRefs_of main_v9 (by decide) (by decide))).trans (fin_main_v9 m c),
      ((h c).1 19).trans (show _ = reg_main_v6_3 m c from rfl),
      ((h c).1 20).trans (show _ = reg_main_v6_4 m c from rfl),
      ((h c).1 21).trans (show _ = reg_main_v6_5 m c from rfl),
      ((h c).2 main_v10 (Pipeline.mem_restRefs_of main_v10 (by decide) (by decide))).trans (fin_main_v10 m c),
      ((h c).2 main_v11 (Pipeline.mem_restRefs_of main_v11 (by decide) (by decide))).trans (fin_main_v11 m c),
      ((h c).2 main_v12 (Pipeline.mem_restRefs_of main_v12 (by decide) (by decide))).trans (fin_main_v12 m c),
      ((h c).1 25).trans (show _ = reg_main_v6_9 m c from rfl),
      ((h c).1 26).trans (show _ = reg_main_v6_10 m c from rfl),
      ((h c).1 27).trans (show _ = reg_main_v6_11 m c from rfl),
      ((h c).2 main_arg0 (Pipeline.mem_restRefs_of main_arg0 (by decide) (by decide))).trans (Gen.W_kept m (Gen.dats m) c (by decide) (by decide) (by decide)),
      ((h c).1 4).trans (((Gen.dats m 0 c).arrAt_in 4 rfl _).trans ((Gen.A_eq m c 4).trans (Gen.V_kept m c (by decide)))),
      ((h c).2 main_arg2 (Pipeline.mem_restRefs_of main_arg2 (by decide) (by decide))).trans (Gen.W_kept m (Gen.dats m) c (by decide) (by decide) (by decide)),
      ((h c).1 12).trans (((Gen.dats m 0 c).arrAt_in 12 rfl _).trans ((Gen.A_eq m c 12).trans (Gen.V_kept m c (by decide)))),
      ((h c).1 1).trans (((Gen.dats m 0 c).arrAt_in 1 rfl _).trans ((Gen.A_eq m c 1).trans (Gen.V_kept m c (by decide)))),
      ((h c).1 5).trans (((Gen.dats m 0 c).arrAt_in 5 rfl _).trans ((Gen.A_eq m c 5).trans (Gen.V_kept m c (by decide)))),
      ((h c).1 9).trans (((Gen.dats m 0 c).arrAt_in 9 rfl _).trans ((Gen.A_eq m c 9).trans (Gen.V_kept m c (by decide)))),
      ((h c).1 13).trans (((Gen.dats m 0 c).arrAt_in 13 rfl _).trans ((Gen.A_eq m c 13).trans (Gen.V_kept m c (by decide)))),
      ((h c).2 main_arg8 (Pipeline.mem_restRefs_of main_arg8 (by decide) (by decide))).trans (Gen.W_kept m (Gen.dats m) c (by decide) (by decide) (by decide)),
      ((h c).1 6).trans (((Gen.dats m 0 c).arrAt_in 6 rfl _).trans ((Gen.A_eq m c 6).trans (Gen.V_kept m c (by decide)))),
      ((h c).2 main_arg10 (Pipeline.mem_restRefs_of main_arg10 (by decide) (by decide))).trans (Gen.W_kept m (Gen.dats m) c (by decide) (by decide) (by decide)),
      ((h c).1 14).trans (((Gen.dats m 0 c).arrAt_in 14 rfl _).trans ((Gen.A_eq m c 14).trans (Gen.V_kept m c (by decide)))),
      ((h c).2 main_arg12 (Pipeline.mem_restRefs_of main_arg12 (by decide) (by decide))).trans (Gen.W_kept m (Gen.dats m) c (by decide) (by decide) (by decide)),
      ((h c).1 7).trans (((Gen.dats m 0 c).arrAt_in 7 rfl _).trans ((Gen.A_eq m c 7).trans (Gen.V_kept m c (by decide)))),
      ((h c).2 main_arg14 (Pipeline.mem_restRefs_of main_arg14 (by decide) (by decide))).trans (Gen.W_kept m (Gen.dats m) c (by decide) (by decide) (by decide)),
      ((h c).1 15).trans (((Gen.dats m 0 c).arrAt_in 15 rfl _).trans ((Gen.A_eq m c 15).trans (Gen.V_kept m c (by decide))))⟩) (Gen.run_main m ρ)

end Cert.Kernel8Ideal.Value

end
-- ==== Proof.Adam.lean ====
module

public import proofs.«01_k».proof.Proof.AdamSpec
public import proofs.«01_k».proof.Proof.AdamFrame
public import proofs.«01_k».proof.Proof.AdamRun
public import Idealize.ShloMosaic.Lib.Pointwise
public import Idealize.ShloMosaic.Lib.Claim
public import Idealize.ShloMosaic.Lib.Pipeline.ValueKit
public import Idealize.ShloMosaic.Lib.Pipeline.ReadBack

@[expose] public section

set_option maxRecDepth 16384

noncomputable section

/-!
What the result arrays of the optimiser's call on the four large weights hold after its run.
-/

open Idealize.ShloMosaic Idealize.ShloMosaic.TcCoe Idealize.SL.Sem

namespace Cert.Kernel8Ideal.Value

open Cert.Kernel8Ideal Cert.Kernel8Ideal.Gen

variable (m : (ℓ : Loc nD τ sig) → Buf (Elt Ideal) ℓ) (c : Dev nD)

/-! Every window shows block `t` of rows at point `t`. -/

theorem idxIn : ∀ t : Fin cfg0.N, win0_0.index t = ![t.val, 0] ∧ win0_1.index t = ![t.val, 0] ∧ win0_2.index t = ![t.val, 0] ∧ win0_3.index t = ![t.val, 0] ∧ win0_16.index t = ![t.val, 0] ∧ win0_17.index t = ![t.val, 0] ∧ win0_18.index t = ![t.val, 0] :=
  (by decide +kernel : ∀ t : Fin grid0.N, _)
theorem idxOut : ∀ t : Fin cfg0.N, win0_4.index t = ![t.val, 0] ∧ win0_5.index t = ![t.val, 0] ∧ win0_6.index t = ![t.val, 0] ∧ win0_7.index t = ![t.val, 0] ∧ win0_19.index t = ![t.val, 0] ∧ win0_20.index t = ![t.val, 0] ∧ win0_21.index t = ![t.val, 0] :=
  (by decide +kernel : ∀ t : Fin grid0.N, _)
theorem idxUp : ∀ t : Fin cfg0.N, win0_8.index t = ![t.val, 0] ∧ win0_9.index t = ![t.val, 0] ∧ win0_10.index t = ![t.val, 0] ∧ win0_11.index t = ![t.val, 0] ∧ win0_22.index t = ![t.val, 0] ∧ win0_23.index t = ![t.val, 0] ∧ win0_24.index t = ![t.val, 0] :=
  (by decide +kernel : ∀ t : Fin grid0.N, _)
theorem idxDown : ∀ t : Fin cfg0.N, win0_12.index t = ![t.val, 0] ∧ win0_13.index t = ![t.val, 0] ∧ win0_14.index t = ![t.val, 0] ∧ win0_15.index t = ![t.val, 0] ∧ win0_25.index t = ![t.val, 0] ∧ win0_26.index t = ![t.val, 0] ∧ win0_27.index t = ![t.val, 0] :=
  (by decide +kernel : ∀ t : Fin grid0.N, _)

theorem at_four (t : Fin cfg0.N) : t.val < 4 := lt_of_lt_of_eq t.isLt N_0

/-! The row of the whole array that is row `a` of block `t`, for each weight. -/

def rowIn (t : Fin cfg0.N) (a : Fin 56) : Fin 224 := ⟨t.val * 56 + a.val, by have := at_four t; omega⟩
def rowOut (t : Fin cfg0.N) (a : Fin 32) : Fin 128 := ⟨t.val * 32 + a.val, by have := at_four t; omega⟩
def rowUp (t : Fin cfg0.N) (a : Fin 176) : Fin 704 := ⟨t.val * 176 + a.val, by have := at_four t; omega⟩
def rowDown (t : Fin cfg0.N) (a : Fin 88) : Fin 352 := ⟨t.val * 88 + a.val, by have := at_four t; omega⟩

/-! The arguments, by row and column of the arrays the optimiser walks. -/

def WIn (i : Fin 224) (k : Fin 1024) : EReal := m ((c.tc : Thread nD τ).loc main_arg0) (ix2 k i)
def WOut (i : Fin 128) (k : Fin 1024) : EReal := m ((c.tc : Thread nD τ).loc main_arg1) (ix2 i k)
def WUp (i : Fin 704) (k : Fin 1024) : EReal := m ((c.tc : Thread nD τ).loc main_arg2) (ix2 k i)
def WDown (i : Fin 352) (k : Fin 1024) : EReal := m ((c.tc : Thread nD τ).loc main_arg3) (ix2 i k)
def GIn (i : Fin 224) (k : Fin 1024) : EReal := m ((c.tc : Thread nD τ).loc main_arg4) (ix2 i k)
def GOut (i : Fin 128) (k : Fin 1024) : EReal := m ((c.tc : Thread nD τ).loc main_arg5) (ix2 i k)
def GUp (i : Fin 704) (k : Fin 1024) : EReal := m ((c.tc : Thread nD τ).loc main_arg6) (ix2 i k)
def GDown (i : Fin 352) (k : Fin 1024) : EReal := m ((c.tc : Thread nD τ).loc main_arg7) (ix2 i k)
def MIn (i : Fin 224) (k : Fin 1024) : EReal := m ((c.tc : Thread nD τ).loc main_arg8) (ix2 k i)
def MOut (i : Fin 128) (k : Fin 1024) : EReal := m ((c.tc : Thread nD τ).loc main_arg9) (ix2 i k)
def MUp (i : Fin 704) (k : Fin 1024) : EReal := m ((c.tc : Thread nD τ).loc main_arg10) (ix2 k i)
def MDown (i : Fin 352) (k : Fin 1024) : EReal := m ((c.tc : Thread nD τ).loc main_arg11) (ix2 i k)
def VIn (i : Fin 224) (k : Fin 1024) : EReal := m ((c.tc : Thread nD τ).loc main_arg12) (ix2 k i)
def VOut (i : Fin 128) (k : Fin 1024) : EReal := m ((c.tc : Thread nD τ).loc main_arg13) (ix2 i k)
def VUp (i : Fin 704) (k : Fin 1024) : EReal := m ((c.tc : Thread nD τ).loc main_arg14) (ix2 k i)
def VDown (i : Fin 352) (k : Fin 1024) : EReal := m ((c.tc : Thread nD τ).loc main_arg15) (ix2 i k)

/-! The two weights and their averages as the region finds them: turned. -/

theorem read_WIn : V m c main_v0 = transpose S224x1024 [1, 0] (m ((c.tc : Thread nD τ).loc main_arg0)) transposes_S1024x224_S224x1024_1_0 := by
  show StableHlo.after _ _ _ = _
  simp only [hostOps0, List.flatten_cons, List.flatten_nil, List.append_nil, List.cons_append, List.nil_append]
  after_results <;> rfl
theorem read_MIn : V m c main_v2 = transpose S224x1024 [1, 0] (m ((c.tc : Thread nD τ).loc main_arg8)) transposes_S1024x224_S224x1024_1_0 := by
  show StableHlo.after _ _ _ = _
  simp only [hostOps0, List.flatten_cons, List.flatten_nil, List.append_nil, List.cons_append, List.nil_append]
  after_results <;> rfl
theorem read_VIn : V m c main_v4 = transpose S224x1024 [1, 0] (m ((c.tc : Thread nD τ).loc main_arg12)) transposes_S1024x224_S224x1024_1_0 := by
  show StableHlo.after _ _ _ = _
  simp only [hostOps0, List.flatten_cons, List.flatten_nil, List.append_nil, List.cons_append, List.nil_append]
  after_results <;> rfl
theorem read_WUp : V m c main_v1 = transpose S704x1024 [1, 0] (m ((c.tc : Thread nD τ).loc main_arg2)) transposes_S1024x704_S704x1024_1_0 := by
  show StableHlo.after _ _ _ = _
  simp only [hostOps0, List.flatten_cons, List.flatten_nil, List.append_nil, List.cons_append, List.nil_append]
  after_results <;> rfl
theorem read_MUp : V m c main_v3 = transpose S704x1024 [1, 0] (m ((c.tc : Thread nD τ).loc main_arg10)) transposes_S1024x704_S704x1024_1_0 := by
  show StableHlo.after _ _ _ = _
  simp only [hostOps0, List.flatten_cons, List.flatten_nil, List.append_nil, List.cons_append, List.nil_append]
  after_results <;> rfl
theorem read_VUp : V m c main_v5 = transpose S704x1024 [1, 0] (m ((c.tc : Thread nD τ).loc main_arg14)) transposes_S1024x704_S704x1024_1_0 := by
  show StableHlo.after _ _ _ = _
  simp only [hostOps0, List.flatten_cons, List.flatten_nil, List.append_nil, List.cons_append, List.nil_append]
  after_results <;> rfl

/-! What the input windows show. -/

theorem in0 (t : Fin cfg0.N) (a : Fin 56) (k : Fin 1024) : iblk m c 0 t (ix2 a k) = WIn m c (rowIn t a) k := by
  have e : ((cfg0.win 0).blk t).view.emb (ix2 a k) = ix2 (rowIn t a) k := by unfold rowIn; blk_ext [idxIn t]
  exact (congrFun (read_WIn m c) _).trans ((congrArg _ e).trans (by unfold WIn; pointwise))
theorem in1 (t : Fin cfg0.N) (a : Fin 56) (k : Fin 1024) : iblk m c 1 t (ix2 a k) = GIn m c (rowIn t a) k := by
  unfold GIn rowIn; blk_ext [iblk, V, idxIn t]
theorem in2 (t : Fin cfg0.N) (a : Fin 56) (k : Fin 1024) : iblk m c 2 t (ix2 a k) = MIn m c (rowIn t a) k := by
  have e : ((cfg0.win 2).blk t).view.emb (ix2 a k) = ix2 (rowIn t a) k := by unfold rowIn; blk_ext [idxIn t]
  exact (congrFun (read_MIn m c) _).trans ((congrArg _ e).trans (by unfold MIn; pointwise))
theorem in3 (t : Fin cfg0.N) (a : Fin 56) (k : Fin 1024) : iblk m c 3 t (ix2 a k) = VIn m c (rowIn t a) k := by
  have e : ((cfg0.win 3).blk t).view.emb (ix2 a k) = ix2 (rowIn t a) k := by unfold rowIn; blk_ext [idxIn t]
  exact (congrFun (read_VIn m c) _).trans ((congrArg _ e).trans (by unfold VIn; pointwise))
theorem in4 (t : Fin cfg0.N) (a : Fin 32) (k : Fin 1024) : iblk m c 4 t (ix2 a k) = WOut m c (rowOut t a) k := by
  unfold WOut rowOut; blk_ext [iblk, V, idxOut t]
theorem in5 (t : Fin cfg0.N) (a : Fin 32) (k : Fin 1024) : iblk m c 5 t (ix2 a k) = GOut m c (rowOut t a) k := by
  unfold GOut rowOut; blk_ext [iblk, V, idxOut t]
theorem in6 (t : Fin cfg0.N) (a : Fin 32) (k : Fin 1024) : iblk m c 6 t (ix2 a k) = MOut m c (rowOut t a) k := by
  unfold MOut rowOut; blk_ext [iblk, V, idxOut t]
theorem in7 (t : Fin cfg0.N) (a : Fin 32) (k : Fin 1024) : iblk m c 7 t (ix2 a k) = VOut m c (rowOut t a) k := by
  unfold VOut rowOut; blk_ext [iblk, V, idxOut t]
theorem in8 (t : Fin cfg0.N) (a : Fin 176) (k : Fin 1024) : iblk m c 8 t (ix2 a k) = WUp m c (rowUp t a) k := by
  have e : ((cfg0.win 8).blk t).view.emb (ix2 a k) = ix2 (rowUp t a) k := by unfold rowUp; blk_ext [idxUp t]
  exact (congrFun (read_WUp m c) _).trans ((congrArg _ e).trans (by unfold WUp; pointwise))
theorem in9 (t : Fin cfg0.N) (a : Fin 176) (k : Fin 1024) : iblk m c 9 t (ix2 a k) = GUp m c (rowUp t a) k := by
  unfold GUp rowUp; blk_ext [iblk, V, idxUp t]
theorem in10 (t : Fin cfg0.N) (a : Fin 176) (k : Fin 1024) : iblk m c 10 t (ix2 a k) = MUp m c (rowUp t a) k := by
  have e : ((cfg0.win 10).blk t).view.emb (ix2 a k) = ix2 (rowUp t a) k := by unfold rowUp; blk_ext [idxUp t]
  exact (congrFun (read_MUp m c) _).trans ((congrArg _ e).trans (by unfold MUp; pointwise))
theorem in11 (t : Fin cfg0.N) (a : Fin 176) (k : Fin 1024) : iblk m c 11 t (ix2 a k) = VUp m c (rowUp t a) k := by
  have e : ((cfg0.win 11).blk t).view.emb (ix2 a k) = ix2 (rowUp t a) k := by unfold rowUp; blk_ext [idxUp t]
  exact (congrFun (read_VUp m c) _).trans ((congrArg _ e).trans (by unfold VUp; pointwise))
theorem in12 (t : Fin cfg0.N) (a : Fin 88) (k : Fin 1024) : iblk m c 12 t (ix2 a k) = WDown m c (rowDown t a) k := by
  unfold WDown rowDown; blk_ext [iblk, V, idxDown t]
theorem in13 (t : Fin cfg0.N) (a : Fin 88) (k : Fin 1024) : iblk m c 13 t (ix2 a k) = GDown m c (rowDown t a) k := by
  unfold GDown rowDown; blk_ext [iblk, V, idxDown t]
theorem in14 (t : Fin cfg0.N) (a : Fin 88) (k : Fin 1024) : iblk m c 14 t (ix2 a k) = MDown m c (rowDown t a) k := by
  unfold MDown rowDown; blk_ext [iblk, V, idxDown t]
theorem in15 (t : Fin cfg0.N) (a : Fin 88) (k : Fin 1024) : iblk m c 15 t (ix2 a k) = VDown m c (rowDown t a) k := by
  unfold VDown rowDown; blk_ext [iblk, V, idxDown t]

/-! What the body stores at an entry of block `t`. -/

theorem block17 (t : Fin cfg0.N) (a : Fin 56) (k : Fin 1024) :
    out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 a k)
      = Adam.newM (GIn m c (rowIn t a) k) (MIn m c (rowIn t a) k) := by
  frame_out; pointwise [k0_pay4]; simp only [in1, in2]; rfl
theorem block18 (t : Fin cfg0.N) (a : Fin 56) (k : Fin 1024) :
    out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 a k)
      = Adam.newV (GIn m c (rowIn t a) k) (VIn m c (rowIn t a) k) := by
  frame_out; pointwise [k0_pay5]; simp only [in1, in3]; rfl
theorem block16 (t : Fin cfg0.N) (a : Fin 56) (k : Fin 1024) :
    out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 a k)
      = Adam.delta (WIn m c (rowIn t a) k) (GIn m c (rowIn t a) k) (MIn m c (rowIn t a) k) (VIn m c (rowIn t a) k) := by
  frame_out; pointwise [k0_pay6, k0_pay4, k0_pay5]; simp only [in0, in1, in2, in3]; rfl
theorem block20 (t : Fin cfg0.N) (a : Fin 32) (k : Fin 1024) :
    out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 a k)
      = Adam.newM (GOut m c (rowOut t a) k) (MOut m c (rowOut t a) k) := by
  frame_out; pointwise [k0_pay7]; simp only [in5, in6]; rfl
theorem block21 (t : Fin cfg0.N) (a : Fin 32) (k : Fin 1024) :
    out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 a k)
      = Adam.newV (GOut m c (rowOut t a) k) (VOut m c (rowOut t a) k) := by
  frame_out; pointwise [k0_pay8]; simp only [in5, in7]; rfl
theorem block19 (t : Fin cfg0.N) (a : Fin 32) (k : Fin 1024) :
    out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 a k)
      = Adam.delta (WOut m c (rowOut t a) k) (GOut m c (rowOut t a) k) (MOut m c (rowOut t a) k) (VOut m c (rowOut t a) k) := by
  frame_out; pointwise [k0_pay9, k0_pay7, k0_pay8]; simp only [in4, in5, in6, in7]; rfl
theorem block23 (t : Fin cfg0.N) (a : Fin 176) (k : Fin 1024) :
    out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 a k)
      = Adam.newM (GUp m c (rowUp t a) k) (MUp m c (rowUp t a) k) := by
  frame_out; pointwise [k0_pay10]; simp only [in9, in10]; rfl
theorem block24 (t : Fin cfg0.N) (a : Fin 176) (k : Fin 1024) :
    out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 a k)
      = Adam.newV (GUp m c (rowUp t a) k) (VUp m c (rowUp t a) k) := by
  frame_out; pointwise [k0_pay11]; simp only [in9, in11]; rfl
theorem block22 (t : Fin cfg0.N) (a : Fin 176) (k : Fin 1024) :
    out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 a k)
      = Adam.delta (WUp m c (rowUp t a) k) (GUp m c (rowUp t a) k) (MUp m c (rowUp t a) k) (VUp m c (rowUp t a) k) := by
  frame_out; pointwise [k0_pay12, k0_pay10, k0_pay11]; simp only [in8, in9, in10, in11]; rfl
theorem block26 (t : Fin cfg0.N) (a : Fin 88) (k : Fin 1024) :
    out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 a k)
      = Adam.newM (GDown m c (rowDown t a) k) (MDown m c (rowDown t a) k) := by
  frame_out; pointwise [k0_pay1]; simp only [in13, in14]; rfl
theorem block27 (t : Fin cfg0.N) (a : Fin 88) (k : Fin 1024) :
    out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 a k)
      = Adam.newV (GDown m c (rowDown t a) k) (VDown m c (rowDown t a) k) := by
  frame_out; pointwise [k0_pay2]; simp only [in13, in15]; rfl
theorem block25 (t : Fin cfg0.N) (a : Fin 88) (k : Fin 1024) :
    out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 a k)
      = Adam.delta (WDown m c (rowDown t a) k) (GDown m c (rowDown t a) k) (MDown m c (rowDown t a) k) (VDown m c (rowDown t a) k) := by
  frame_out; pointwise [k0_pay3, k0_pay1, k0_pay2]; simp only [in12, in13, in14, in15]; rfl

/-! The arrays when the region ends. -/

theorem final16 : (dats m 0 c).arrAt 16 cfg0.N = fun y : S224x1024.Idx => Adam.delta (WIn m c (y 0) (y 1)) (GIn m c (y 0) (y 1)) (MIn m c (y 0) (y 1)) (VIn m c (y 0) (y 1)) := by
  refine (dats m 0 c).arrAt_eq_of_covers 16 _ (by decide +kernel) fun t hf y => ?_
  blk_simp
  rw [after0_16]
  obtain ⟨a, j, rfl⟩ : ∃ (a : Fin 56) (j : Fin 1024), y = ix2 a j := ⟨y 0, y 1, by funext i; match i with | 0 => rfl | 1 => rfl⟩
  refine (block16 m c t a j).trans ?_
  have e : ((cfg0.win 16).blk t).view.emb (ix2 a j) = ix2 (rowIn t a) j := by unfold rowIn; blk_ext [idxIn t]
  simp only [e]; rfl

theorem final17 : (dats m 0 c).arrAt 17 cfg0.N = fun y : S224x1024.Idx => Adam.newM (GIn m c (y 0) (y 1)) (MIn m c (y 0) (y 1)) := by
  refine (dats m 0 c).arrAt_eq_of_covers 17 _ (by decide +kernel) fun t hf y => ?_
  blk_simp
  rw [after0_17]
  obtain ⟨a, j, rfl⟩ : ∃ (a : Fin 56) (j : Fin 1024), y = ix2 a j := ⟨y 0, y 1, by funext i; match i with | 0 => rfl | 1 => rfl⟩
  refine (block17 m c t a j).trans ?_
  have e : ((cfg0.win 17).blk t).view.emb (ix2 a j) = ix2 (rowIn t a) j := by unfold rowIn; blk_ext [idxIn t]
  simp only [e]; rfl

theorem final18 : (dats m 0 c).arrAt 18 cfg0.N = fun y : S224x1024.Idx => Adam.newV (GIn m c (y 0) (y 1)) (VIn m c (y 0) (y 1)) := by
  refine (dats m 0 c).arrAt_eq_of_covers 18 _ (by decide +kernel) fun t hf y => ?_
  blk_simp
  rw [after0_18]
  obtain ⟨a, j, rfl⟩ : ∃ (a : Fin 56) (j : Fin 1024), y = ix2 a j := ⟨y 0, y 1, by funext i; match i with | 0 => rfl | 1 => rfl⟩
  refine (block18 m c t a j).trans ?_
  have e : ((cfg0.win 18).blk t).view.emb (ix2 a j) = ix2 (rowIn t a) j := by unfold rowIn; blk_ext [idxIn t]
  simp only [e]; rfl

theorem final19 : (dats m 0 c).arrAt 19 cfg0.N = fun y : S128x1024.Idx => Adam.delta (WOut m c (y 0) (y 1)) (GOut m c (y 0) (y 1)) (MOut m c (y 0) (y 1)) (VOut m c (y 0) (y 1)) := by
  refine (dats m 0 c).arrAt_eq_of_covers 19 _ (by decide +kernel) fun t hf y => ?_
  blk_simp
  rw [after0_19]
  obtain ⟨a, j, rfl⟩ : ∃ (a : Fin 32) (j : Fin 1024), y = ix2 a j := ⟨y 0, y 1, by funext i; match i with | 0 => rfl | 1 => rfl⟩
  refine (block19 m c t a j).trans ?_
  have e : ((cfg0.win 19).blk t).view.emb (ix2 a j) = ix2 (rowOut t a) j := by unfold rowOut; blk_ext [idxOut t]
  simp only [e]; rfl

theorem final20 : (dats m 0 c).arrAt 20 cfg0.N = fun y : S128x1024.Idx => Adam.newM (GOut m c (y 0) (y 1)) (MOut m c (y 0) (y 1)) := by
  refine (dats m 0 c).arrAt_eq_of_covers 20 _ (by decide +kernel) fun t hf y => ?_
  blk_simp
  rw [after0_20]
  obtain ⟨a, j, rfl⟩ : ∃ (a : Fin 32) (j : Fin 1024), y = ix2 a j := ⟨y 0, y 1, by funext i; match i with | 0 => rfl | 1 => rfl⟩
  refine (block20 m c t a j).trans ?_
  have e : ((cfg0.win 20).blk t).view.emb (ix2 a j) = ix2 (rowOut t a) j := by unfold rowOut; blk_ext [idxOut t]
  simp only [e]; rfl

theorem final21 : (dats m 0 c).arrAt 21 cfg0.N = fun y : S128x1024.Idx => Adam.newV (GOut m c (y 0) (y 1)) (VOut m c (y 0) (y 1)) := by
  refine (dats m 0 c).arrAt_eq_of_covers 21 _ (by decide +kernel) fun t hf y => ?_
  blk_simp
  rw [after0_21]
  obtain ⟨a, j, rfl⟩ : ∃ (a : Fin 32) (j : Fin 1024), y = ix2 a j := ⟨y 0, y 1, by funext i; match i with | 0 => rfl | 1 => rfl⟩
  refine (block21 m c t a j).trans ?_
  have e : ((cfg0.win 21).blk t).view.emb (ix2 a j) = ix2 (rowOut t a) j := by unfold rowOut; blk_ext [idxOut t]
  simp only [e]; rfl

theorem final22 : (dats m 0 c).arrAt 22 cfg0.N = fun y : S704x1024.Idx => Adam.delta (WUp m c (y 0) (y 1)) (GUp m c (y 0) (y 1)) (MUp m c (y 0) (y 1)) (VUp m c (y 0) (y 1)) := by
  refine (dats m 0 c).arrAt_eq_of_covers 22 _ (by decide +kernel) fun t hf y => ?_
  blk_simp
  rw [after0_22]
  obtain ⟨a, j, rfl⟩ : ∃ (a : Fin 176) (j : Fin 1024), y = ix2 a j := ⟨y 0, y 1, by funext i; match i with | 0 => rfl | 1 => rfl⟩
  refine (block22 m c t a j).trans ?_
  have e : ((cfg0.win 22).blk t).view.emb (ix2 a j) = ix2 (rowUp t a) j := by unfold rowUp; blk_ext [idxUp t]
  simp only [e]; rfl

theorem final23 : (dats m 0 c).arrAt 23 cfg0.N = fun y : S704x1024.Idx => Adam.newM (GUp m c (y 0) (y 1)) (MUp m c (y 0) (y 1)) := by
  refine (dats m 0 c).arrAt_eq_of_covers 23 _ (by decide +kernel) fun t hf y => ?_
  blk_simp
  rw [after0_23]
  obtain ⟨a, j, rfl⟩ : ∃ (a : Fin 176) (j : Fin 1024), y = ix2 a j := ⟨y 0, y 1, by funext i; match i with | 0 => rfl | 1 => rfl⟩
  refine (block23 m c t a j).trans ?_
  have e : ((cfg0.win 23).blk t).view.emb (ix2 a j) = ix2 (rowUp t a) j := by unfold rowUp; blk_ext [idxUp t]
  simp only [e]; rfl

theorem final24 : (dats m 0 c).arrAt 24 cfg0.N = fun y : S704x1024.Idx => Adam.newV (GUp m c (y 0) (y 1)) (VUp m c (y 0) (y 1)) := by
  refine (dats m 0 c).arrAt_eq_of_covers 24 _ (by decide +kernel) fun t hf y => ?_
  blk_simp
  rw [after0_24]
  obtain ⟨a, j, rfl⟩ : ∃ (a : Fin 176) (j : Fin 1024), y = ix2 a j := ⟨y 0, y 1, by funext i; match i with | 0 => rfl | 1 => rfl⟩
  refine (block24 m c t a j).trans ?_
  have e : ((cfg0.win 24).blk t).view.emb (ix2 a j) = ix2 (rowUp t a) j := by unfold rowUp; blk_ext [idxUp t]
  simp only [e]; rfl

theorem final25 : (dats m 0 c).arrAt 25 cfg0.N = fun y : S352x1024.Idx => Adam.delta (WDown m c (y 0) (y 1)) (GDown m c (y 0) (y 1)) (MDown m c (y 0) (y 1)) (VDown m c (y 0) (y 1)) := by
  refine (dats m 0 c).arrAt_eq_of_covers 25 _ (by decide +kernel) fun t hf y => ?_
  blk_simp
  rw [after0_25]
  obtain ⟨a, j, rfl⟩ : ∃ (a : Fin 88) (j : Fin 1024), y = ix2 a j := ⟨y 0, y 1, by funext i; match i with | 0 => rfl | 1 => rfl⟩
  refine (block25 m c t a j).trans ?_
  have e : ((cfg0.win 25).blk t).view.emb (ix2 a j) = ix2 (rowDown t a) j := by unfold rowDown; blk_ext [idxDown t]
  simp only [e]; rfl

theorem final26 : (dats m 0 c).arrAt 26 cfg0.N = fun y : S352x1024.Idx => Adam.newM (GDown m c (y 0) (y 1)) (MDown m c (y 0) (y 1)) := by
  refine (dats m 0 c).arrAt_eq_of_covers 26 _ (by decide +kernel) fun t hf y => ?_
  blk_simp
  rw [after0_26]
  obtain ⟨a, j, rfl⟩ : ∃ (a : Fin 88) (j : Fin 1024), y = ix2 a j := ⟨y 0, y 1, by funext i; match i with | 0 => rfl | 1 => rfl⟩
  refine (block26 m c t a j).trans ?_
  have e : ((cfg0.win 26).blk t).view.emb (ix2 a j) = ix2 (rowDown t a) j := by unfold rowDown; blk_ext [idxDown t]
  simp only [e]; rfl

theorem final27 : (dats m 0 c).arrAt 27 cfg0.N = fun y : S352x1024.Idx => Adam.newV (GDown m c (y 0) (y 1)) (VDown m c (y 0) (y 1)) := by
  refine (dats m 0 c).arrAt_eq_of_covers 27 _ (by decide +kernel) fun t hf y => ?_
  blk_simp
  rw [after0_27]
  obtain ⟨a, j, rfl⟩ : ∃ (a : Fin 88) (j : Fin 1024), y = ix2 a j := ⟨y 0, y 1, by funext i; match i with | 0 => rfl | 1 => rfl⟩
  refine (block27 m c t a j).trans ?_
  have e : ((cfg0.win 27).blk t).view.emb (ix2 a j) = ix2 (rowDown t a) j := by unfold rowDown; blk_ext [idxDown t]
  simp only [e]; rfl

/-! The two weights that the call walks by columns, turned back. -/

theorem turned16 : transpose S1024x224 [1, 0] (reg_main_v6_0 m c) transposes_S224x1024_S1024x224_1_0
    = fun y : S1024x224.Idx => Adam.delta (WIn m c (y 1) (y 0)) (GIn m c (y 1) (y 0)) (MIn m c (y 1) (y 0)) (VIn m c (y 1) (y 0)) := by
  rw [show reg_main_v6_0 m c = _ from final16 m c]
  funext y
  idx_vars y
  pointwise

theorem turned17 : transpose S1024x224 [1, 0] (reg_main_v6_1 m c) transposes_S224x1024_S1024x224_1_0
    = fun y : S1024x224.Idx => Adam.newM (GIn m c (y 1) (y 0)) (MIn m c (y 1) (y 0)) := by
  rw [show reg_main_v6_1 m c = _ from final17 m c]
  funext y
  idx_vars y
  pointwise

theorem turned18 : transpose S1024x224 [1, 0] (reg_main_v6_2 m c) transposes_S224x1024_S1024x224_1_0
    = fun y : S1024x224.Idx => Adam.newV (GIn m c (y 1) (y 0)) (VIn m c (y 1) (y 0)) := by
  rw [show reg_main_v6_2 m c = _ from final18 m c]
  funext y
  idx_vars y
  pointwise

theorem turned22 : transpose S1024x704 [1, 0] (reg_main_v6_6 m c) transposes_S704x1024_S1024x704_1_0
    = fun y : S1024x704.Idx => Adam.delta (WUp m c (y 1) (y 0)) (GUp m c (y 1) (y 0)) (MUp m c (y 1) (y 0)) (VUp m c (y 1) (y 0)) := by
  rw [show reg_main_v6_6 m c = _ from final22 m c]
  funext y
  idx_vars y
  pointwise

theorem turned23 : transpose S1024x704 [1, 0] (reg_main_v6_7 m c) transposes_S704x1024_S1024x704_1_0
    = fun y : S1024x704.Idx => Adam.newM (GUp m c (y 1) (y 0)) (MUp m c (y 1) (y 0)) := by
  rw [show reg_main_v6_7 m c = _ from final23 m c]
  funext y
  idx_vars y
  pointwise

theorem turned24 : transpose S1024x704 [1, 0] (reg_main_v6_8 m c) transposes_S704x1024_S1024x704_1_0
    = fun y : S1024x704.Idx => Adam.newV (GUp m c (y 1) (y 0)) (VUp m c (y 1) (y 0)) := by
  rw [show reg_main_v6_8 m c = _ from final24 m c]
  funext y
  idx_vars y
  pointwise

end Cert.Kernel8Ideal.Value

end
-- ==== Proof.AdamRef.lean ====
module

public import proofs.«01_k».proof.Proof.AdamSpec
public import proofs.«01_k».proof.Proof.Gen.Reference8Ideal.Run
public import Idealize.ShloMosaic.Lib.Pointwise
public import Idealize.ShloMosaic.Lib.Claim

@[expose] public section

set_option maxRecDepth 16384

noncomputable section

/-!
What the reference for the optimiser's call computes.
-/

open Idealize.ShloMosaic Idealize.ShloMosaic.TcCoe Idealize.SL.Sem

namespace Cert.Reference8Ideal.Value

open Cert.Reference8Ideal Cert.Reference8Ideal.Gen

variable (m : (ℓ : Loc nD τ sig) → Buf (Elt Ideal) ℓ) (c : Dev nD)

/-! The arguments, by row and column of the arrays the optimiser walks. -/

def WIn (i : Fin 224) (k : Fin 1024) : EReal := m ((c.tc : Thread nD τ).loc main_arg0) (ix2 k i)
def WOut (i : Fin 128) (k : Fin 1024) : EReal := m ((c.tc : Thread nD τ).loc main_arg1) (ix2 i k)
def WUp (i : Fin 704) (k : Fin 1024) : EReal := m ((c.tc : Thread nD τ).loc main_arg2) (ix2 k i)
def WDown (i : Fin 352) (k : Fin 1024) : EReal := m ((c.tc : Thread nD τ).loc main_arg3) (ix2 i k)
def GIn (i : Fin 224) (k : Fin 1024) : EReal := m ((c.tc : Thread nD τ).loc main_arg4) (ix2 i k)
def GOut (i : Fin 128) (k : Fin 1024) : EReal := m ((c.tc : Thread nD τ).loc main_arg5) (ix2 i k)
def GUp (i : Fin 704) (k : Fin 1024) : EReal := m ((c.tc : Thread nD τ).loc main_arg6) (ix2 i k)
def GDown (i : Fin 352) (k : Fin 1024) : EReal := m ((c.tc : Thread nD τ).loc main_arg7) (ix2 i k)
def MIn (i : Fin 224) (k : Fin 1024) : EReal := m ((c.tc : Thread nD τ).loc main_arg8) (ix2 k i)
def MOut (i : Fin 128) (k : Fin 1024) : EReal := m ((c.tc : Thread nD τ).loc main_arg9) (ix2 i k)
def MUp (i : Fin 704) (k : Fin 1024) : EReal := m ((c.tc : Thread nD τ).loc main_arg10) (ix2 k i)
def MDown (i : Fin 352) (k : Fin 1024) : EReal := m ((c.tc : Thread nD τ).loc main_arg11) (ix2 i k)
def VIn (i : Fin 224) (k : Fin 1024) : EReal := m ((c.tc : Thread nD τ).loc main_arg12) (ix2 k i)
def VOut (i : Fin 128) (k : Fin 1024) : EReal := m ((c.tc : Thread nD τ).loc main_arg13) (ix2 i k)
def VUp (i : Fin 704) (k : Fin 1024) : EReal := m ((c.tc : Thread nD τ).loc main_arg14) (ix2 k i)
def VDown (i : Fin 352) (k : Fin 1024) : EReal := m ((c.tc : Thread nD τ).loc main_arg15) (ix2 i k)

theorem run_spec (g : Dev nD → PrngReg) :
    θ_run defs (onTc (τ := τ) (main (F := Ideal))) ⟨m, fun _ => 0, g⟩ fun r => ∀ c : Dev nD,
      r.2.mem ((c.tc : Thread nD τ).loc main_v24) = (fun y : S1024x224.Idx => Adam.delta (WIn m c (y 1) (y 0)) (GIn m c (y 1) (y 0)) (MIn m c (y 1) (y 0)) (VIn m c (y 1) (y 0)))
      ∧ r.2.mem ((c.tc : Thread nD τ).loc main_v5) = (fun y : S1024x224.Idx => Adam.newM (GIn m c (y 1) (y 0)) (MIn m c (y 1) (y 0)))
      ∧ r.2.mem ((c.tc : Thread nD τ).loc main_v11) = (fun y : S1024x224.Idx => Adam.newV (GIn m c (y 1) (y 0)) (VIn m c (y 1) (y 0)))
      ∧ r.2.mem ((c.tc : Thread nD τ).loc main_v48) = (fun y : S128x1024.Idx => Adam.delta (WOut m c (y 0) (y 1)) (GOut m c (y 0) (y 1)) (MOut m c (y 0) (y 1)) (VOut m c (y 0) (y 1)))
      ∧ r.2.mem ((c.tc : Thread nD τ).loc main_v29) = (fun y : S128x1024.Idx => Adam.newM (GOut m c (y 0) (y 1)) (MOut m c (y 0) (y 1)))
      ∧ r.2.mem ((c.tc : Thread nD τ).loc main_v35) = (fun y : S128x1024.Idx => Adam.newV (GOut m c (y 0) (y 1)) (VOut m c (y 0) (y 1)))
      ∧ r.2.mem ((c.tc : Thread nD τ).loc main_v73) = (fun y : S1024x704.Idx => Adam.delta (WUp m c (y 1) (y 0)) (GUp m c (y 1) (y 0)) (MUp m c (y 1) (y 0)) (VUp m c (y 1) (y 0)))
      ∧ r.2.mem ((c.tc : Thread nD τ).loc main_v54) = (fun y : S1024x704.Idx => Adam.newM (GUp m c (y 1) (y 0)) (MUp m c (y 1) (y 0)))
      ∧ r.2.mem ((c.tc : Thread nD τ).loc main_v60) = (fun y : S1024x704.Idx => Adam.newV (GUp m c (y 1) (y 0)) (VUp m c (y 1) (y 0)))
      ∧ r.2.mem ((c.tc : Thread nD τ).loc main_v97) = (fun y : S352x1024.Idx => Adam.delta (WDown m c (y 0) (y 1)) (GDown m c (y 0) (y 1)) (MDown m c (y 0) (y 1)) (VDown m c (y 0) (y 1)))
      ∧ r.2.mem ((c.tc : Thread nD τ).loc main_v78) = (fun y : S352x1024.Idx => Adam.newM (GDown m c (y 0) (y 1)) (MDown m c (y 0) (y 1)))
      ∧ r.2.mem ((c.tc : Thread nD τ).loc main_v84) = (fun y : S352x1024.Idx => Adam.newV (GDown m c (y 0) (y 1)) (VDown m c (y 0) (y 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) := by
  refine (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2.1.trans ?_, (h c).2.2.2.2.2.2.2.2.2.2.2.1.trans ?_, (h c).2.2.2.2.2.2.2.2.2.2.2.2⟩) (run m g)
  all_goals (funext y; idx_vars y; pointwise; rfl)

end Cert.Reference8Ideal.Value

end
-- ==== Proof.AdamEq.lean ====
module

public import proofs.«01_k».proof.Defs
public import proofs.«01_k».proof.Proof.Gen.Kernel8
public import proofs.«01_k».proof.Proof.Gen.Kernel8Ideal
public import proofs.«01_k».proof.Proof.AdamFrame
public import proofs.«01_k».proof.Proof.Gen.Reference8Ideal
public import proofs.«01_k».proof.Proof.Adam
public import proofs.«01_k».proof.Proof.AdamRef
public import Idealize.ShloMosaic.Lib.Claim
public import Idealize.ShloMosaic.Lib.Tactic

@[expose] public section

set_option maxRecDepth 16384

noncomputable section

/-!
The optimiser's call on the four large weights and its reference end with the same results.
-/

open Idealize.ShloMosaic Idealize.ShloMosaic.TcCoe Idealize.SL.Sem

namespace Cert.Kernel8Ideal.Value

open Cert.Kernel8Ideal Cert.Kernel8Ideal.Gen

variable (m : (ℓ : Loc nD τ sig) → Buf (Elt Ideal) ℓ) (c : Dev nD)

theorem run_spec (g : Dev nD → PrngReg) :
    θ_run defs (onTc (τ := τ) (main (F := Ideal))) ⟨m, fun _ => 0, g⟩ fun r => ∀ c : Dev nD,
      r.2.mem ((c.tc : Thread nD τ).loc main_v7) = (fun y : S1024x224.Idx => Adam.delta (WIn m c (y 1) (y 0)) (GIn m c (y 1) (y 0)) (MIn m c (y 1) (y 0)) (VIn m c (y 1) (y 0)))
      ∧ r.2.mem ((c.tc : Thread nD τ).loc main_v8) = (fun y : S1024x224.Idx => Adam.newM (GIn m c (y 1) (y 0)) (MIn m c (y 1) (y 0)))
      ∧ r.2.mem ((c.tc : Thread nD τ).loc main_v9) = (fun y : S1024x224.Idx => Adam.newV (GIn m c (y 1) (y 0)) (VIn m c (y 1) (y 0)))
      ∧ r.2.mem ((c.tc : Thread nD τ).loc main_v6_3) = (fun y : S128x1024.Idx => Adam.delta (WOut m c (y 0) (y 1)) (GOut m c (y 0) (y 1)) (MOut m c (y 0) (y 1)) (VOut m c (y 0) (y 1)))
      ∧ r.2.mem ((c.tc : Thread nD τ).loc main_v6_4) = (fun y : S128x1024.Idx => Adam.newM (GOut m c (y 0) (y 1)) (MOut m c (y 0) (y 1)))
      ∧ r.2.mem ((c.tc : Thread nD τ).loc main_v6_5) = (fun y : S128x1024.Idx => Adam.newV (GOut m c (y 0) (y 1)) (VOut m c (y 0) (y 1)))
      ∧ r.2.mem ((c.tc : Thread nD τ).loc main_v10) = (fun y : S1024x704.Idx => Adam.delta (WUp m c (y 1) (y 0)) (GUp m c (y 1) (y 0)) (MUp m c (y 1) (y 0)) (VUp m c (y 1) (y 0)))
      ∧ r.2.mem ((c.tc : Thread nD τ).loc main_v11) = (fun y : S1024x704.Idx => Adam.newM (GUp m c (y 1) (y 0)) (MUp m c (y 1) (y 0)))
      ∧ r.2.mem ((c.tc : Thread nD τ).loc main_v12) = (fun y : S1024x704.Idx => Adam.newV (GUp m c (y 1) (y 0)) (VUp m c (y 1) (y 0)))
      ∧ r.2.mem ((c.tc : Thread nD τ).loc main_v6_9) = (fun y : S352x1024.Idx => Adam.delta (WDown m c (y 0) (y 1)) (GDown m c (y 0) (y 1)) (MDown m c (y 0) (y 1)) (VDown m c (y 0) (y 1)))
      ∧ r.2.mem ((c.tc : Thread nD τ).loc main_v6_10) = (fun y : S352x1024.Idx => Adam.newM (GDown m c (y 0) (y 1)) (MDown m c (y 0) (y 1)))
      ∧ r.2.mem ((c.tc : Thread nD τ).loc main_v6_11) = (fun y : S352x1024.Idx => Adam.newV (GDown m c (y 0) (y 1)) (VDown m c (y 0) (y 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run _ _ _).mono (fun r h c => ⟨(h c).1.trans (turned16 m c), (h c).2.1.trans (turned17 m c), (h c).2.2.1.trans (turned18 m c), (h c).2.2.2.1.trans (final19 m c), (h c).2.2.2.2.1.trans (final20 m c), (h c).2.2.2.2.2.1.trans (final21 m c), (h c).2.2.2.2.2.2.1.trans (turned22 m c), (h c).2.2.2.2.2.2.2.1.trans (turned23 m c), (h c).2.2.2.2.2.2.2.2.1.trans (turned24 m c), (h c).2.2.2.2.2.2.2.2.2.1.trans (final25 m c), (h c).2.2.2.2.2.2.2.2.2.2.1.trans (final26 m c), (h c).2.2.2.2.2.2.2.2.2.2.2.1.trans (final27 m c), (h c).2.2.2.2.2.2.2.2.2.2.2.2⟩) (run m g)

end Cert.Kernel8Ideal.Value

namespace Cert.Proof

theorem adamw_frame_ideal : Cert.quiescent_Kernel8Ideal := fun m ρ _ => Cert.Kernel8Ideal.Gen.frame m ρ

theorem adamw_same {P : Prop} (h : P) (e : Cert.quiescent_Kernel8 = P) : Cert.quiescent_Kernel8 := e.mpr h

/-- The two programs have the same text, so what is proved over any numbers is proved of both. -/
theorem adamw_frame : Cert.quiescent_Kernel8 :=
  adamw_same (fun m ρ (_ : True) => Cert.Kernel8Ideal.Gen.frame (F := Bits) m ρ) (by sl_kernel_rfl)

/-- The reference's frame: its arguments end unchanged, and it has no semaphore. -/
theorem adam_ref_frame : Cert.quiescent_Reference8Ideal := fun m ρ _ =>
  (θ_run Cert.Reference8Ideal.defs _ _).mono (fun r h => ⟨fun c => (h c).2.2.2.2.2.2.2.2.2.2.2.2, sem_eq_zero_of_no_sems (by decide) r.2⟩)
    (Cert.Reference8Ideal.Value.run_spec m ρ)

section

variable (m : (ℓ : Loc Cert.Kernel8Ideal.nD Cert.Kernel8Ideal.τ Cert.Kernel8Ideal.sig) → Buf (Elt Ideal) ℓ)
  (m' : (ℓ : Loc Cert.Reference8Ideal.nD Cert.Reference8Ideal.τ Cert.Reference8Ideal.sig) → Buf (Elt Ideal) ℓ)
  (c : Dev Cert.Kernel8Ideal.nD)

theorem adam_WIn (h : m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)) :
    Cert.Reference8Ideal.Value.WIn m' c = Cert.Kernel8Ideal.Value.WIn m c := by
  unfold Cert.Reference8Ideal.Value.WIn Cert.Kernel8Ideal.Value.WIn; rw [h]

theorem adam_WOut (h : m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) :
    Cert.Reference8Ideal.Value.WOut m' c = Cert.Kernel8Ideal.Value.WOut m c := by
  unfold Cert.Reference8Ideal.Value.WOut Cert.Kernel8Ideal.Value.WOut; rw [h]

theorem adam_WUp (h : m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) :
    Cert.Reference8Ideal.Value.WUp m' c = Cert.Kernel8Ideal.Value.WUp m c := by
  unfold Cert.Reference8Ideal.Value.WUp Cert.Kernel8Ideal.Value.WUp; rw [h]

theorem adam_WDown (h : m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) :
    Cert.Reference8Ideal.Value.WDown m' c = Cert.Kernel8Ideal.Value.WDown m c := by
  unfold Cert.Reference8Ideal.Value.WDown Cert.Kernel8Ideal.Value.WDown; rw [h]

theorem adam_GIn (h : m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) :
    Cert.Reference8Ideal.Value.GIn m' c = Cert.Kernel8Ideal.Value.GIn m c := by
  unfold Cert.Reference8Ideal.Value.GIn Cert.Kernel8Ideal.Value.GIn; rw [h]

theorem adam_GOut (h : m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) :
    Cert.Reference8Ideal.Value.GOut m' c = Cert.Kernel8Ideal.Value.GOut m c := by
  unfold Cert.Reference8Ideal.Value.GOut Cert.Kernel8Ideal.Value.GOut; rw [h]

theorem adam_GUp (h : m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) :
    Cert.Reference8Ideal.Value.GUp m' c = Cert.Kernel8Ideal.Value.GUp m c := by
  unfold Cert.Reference8Ideal.Value.GUp Cert.Kernel8Ideal.Value.GUp; rw [h]

theorem adam_GDown (h : m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) :
    Cert.Reference8Ideal.Value.GDown m' c = Cert.Kernel8Ideal.Value.GDown m c := by
  unfold Cert.Reference8Ideal.Value.GDown Cert.Kernel8Ideal.Value.GDown; rw [h]

theorem adam_MIn (h : m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)) :
    Cert.Reference8Ideal.Value.MIn m' c = Cert.Kernel8Ideal.Value.MIn m c := by
  unfold Cert.Reference8Ideal.Value.MIn Cert.Kernel8Ideal.Value.MIn; rw [h]

theorem adam_MOut (h : m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)) :
    Cert.Reference8Ideal.Value.MOut m' c = Cert.Kernel8Ideal.Value.MOut m c := by
  unfold Cert.Reference8Ideal.Value.MOut Cert.Kernel8Ideal.Value.MOut; rw [h]

theorem adam_MUp (h : m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)) :
    Cert.Reference8Ideal.Value.MUp m' c = Cert.Kernel8Ideal.Value.MUp m c := by
  unfold Cert.Reference8Ideal.Value.MUp Cert.Kernel8Ideal.Value.MUp; rw [h]

theorem adam_MDown (h : m' ((c.tc : Thread Cert.Reference8Ideal.nD Cert.Reference8Ideal.τ).loc Cert.Reference8Ideal.main_arg11) = m ((c.tc : Thread Cert.Kernel8Ideal.nD Cert.Kernel8Ideal.τ).loc Cert.Kernel8Ideal.main_arg11)) :
    Cert.Reference8Ideal.Value.MDown m' c = Cert.Kernel8Ideal.Value.MDown m c := by
  unfold Cert.Reference8Ideal.Value.MDown Cert.Kernel8Ideal.Value.MDown; rw [h]

theorem adam_VIn (h : m' ((c.tc : Thread Cert.Reference8Ideal.nD Cert.Reference8Ideal.τ).loc Cert.Reference8Ideal.main_arg12) = m ((c.tc : Thread Cert.Kernel8Ideal.nD Cert.Kernel8Ideal.τ).loc Cert.Kernel8Ideal.main_arg12)) :
    Cert.Reference8Ideal.Value.VIn m' c = Cert.Kernel8Ideal.Value.VIn m c := by
  unfold Cert.Reference8Ideal.Value.VIn Cert.Kernel8Ideal.Value.VIn; rw [h]

theorem adam_VOut (h : m' ((c.tc : Thread Cert.Reference8Ideal.nD Cert.Reference8Ideal.τ).loc Cert.Reference8Ideal.main_arg13) = m ((c.tc : Thread Cert.Kernel8Ideal.nD Cert.Kernel8Ideal.τ).loc Cert.Kernel8Ideal.main_arg13)) :
    Cert.Reference8Ideal.Value.VOut m' c = Cert.Kernel8Ideal.Value.VOut m c := by
  unfold Cert.Reference8Ideal.Value.VOut Cert.Kernel8Ideal.Value.VOut; rw [h]

theorem adam_VUp (h : m' ((c.tc : Thread Cert.Reference8Ideal.nD Cert.Reference8Ideal.τ).loc Cert.Reference8Ideal.main_arg14) = m ((c.tc : Thread Cert.Kernel8Ideal.nD Cert.Kernel8Ideal.τ).loc Cert.Kernel8Ideal.main_arg14)) :
    Cert.Reference8Ideal.Value.VUp m' c = Cert.Kernel8Ideal.Value.VUp m c := by
  unfold Cert.Reference8Ideal.Value.VUp Cert.Kernel8Ideal.Value.VUp; rw [h]

theorem adam_VDown (h : m' ((c.tc : Thread Cert.Reference8Ideal.nD Cert.Reference8Ideal.τ).loc Cert.Reference8Ideal.main_arg15) = m ((c.tc : Thread Cert.Kernel8Ideal.nD Cert.Kernel8Ideal.τ).loc Cert.Kernel8Ideal.main_arg15)) :
    Cert.Reference8Ideal.Value.VDown m' c = Cert.Kernel8Ideal.Value.VDown m c := by
  unfold Cert.Reference8Ideal.Value.VDown Cert.Kernel8Ideal.Value.VDown; rw [h]

end

/-- The two ways to take the optimiser's step agree. -/
theorem adam : Cert.algebraic_Kernel8Ideal_Reference8Ideal := by
  intro m g m' g' _ hagree
  refine ⟨_, _, _, _, _, _, _, _, _, _, _, _, Cert.Kernel8Ideal.Value.run_spec m g, ?_⟩
  refine (θ_run Cert.Reference8Ideal.defs _ _).mono (fun r h c => ?_) (Cert.Reference8Ideal.Value.run_spec m' g')
  obtain ⟨h0, h1, h2, h3, h4, h5, h6, h7, h8, h9, h10, h11, h12, h13, h14, h15⟩ := hagree c
  have eWIn := adam_WIn m m' c h0
  have eWOut := adam_WOut m m' c h1
  have eWUp := adam_WUp m m' c h2
  have eWDown := adam_WDown m m' c h3
  have eGIn := adam_GIn m m' c h4
  have eGOut := adam_GOut m m' c h5
  have eGUp := adam_GUp m m' c h6
  have eGDown := adam_GDown m m' c h7
  have eMIn := adam_MIn m m' c h8
  have eMOut := adam_MOut m m' c h9
  have eMUp := adam_MUp m m' c h10
  have eMDown := adam_MDown m m' c h11
  have eVIn := adam_VIn m m' c h12
  have eVOut := adam_VOut m m' c h13
  have eVUp := adam_VUp m m' c h14
  have eVDown := adam_VDown m m' c h15
  have hc := h c
  simp only [eWIn, eWOut, eWUp, eWDown, eGIn, eGOut, eGUp, eGDown, eMIn, eMOut, eMUp, eMDown, eVIn, eVOut, eVUp, eVDown] at hc
  exact hc

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Reference8Ideal
public import proofs.«01_k».proof.Proof.Gen.KernelIdeal.Value
public import proofs.«01_k».proof.Proof.Gen.Kernel2Ideal.Value
public import proofs.«01_k».proof.Proof.Gen.Kernel3Ideal.Value
public import proofs.«01_k».proof.Proof.Gen.Kernel4Ideal.Value
public import proofs.«01_k».proof.Proof.Gen.Kernel5Ideal.Value
public import proofs.«01_k».proof.Proof.Gen.Kernel6Ideal.Value
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.InBwdEq
public import proofs.«01_k».proof.Proof.OutBwdEq
public import proofs.«01_k».proof.Proof.DwUpEq
public import proofs.«01_k».proof.Proof.DwDownEq
public import proofs.«01_k».proof.Proof.InProjEq
public import proofs.«01_k».proof.Proof.OutProjEq
public import proofs.«01_k».proof.Proof.FfnUpEq
public import proofs.«01_k».proof.Proof.AdamEq
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts,
    fun m ρ _ => Cert.Kernel.Gen.frame m ρ, fun m ρ _ => Cert.KernelIdeal.Gen.frame m ρ, in_bwd_ref_frame,
    fun m ρ _ => Cert.Kernel2.Gen.frame m ρ, fun m ρ _ => Cert.Kernel2Ideal.Gen.frame m ρ, out_bwd_ref_frame,
    fun m ρ _ => Cert.Kernel3.Gen.frame m ρ, fun m ρ _ => Cert.Kernel3Ideal.Gen.frame m ρ, dw_up_ref_frame,
    fun m ρ _ => Cert.Kernel4.Gen.frame m ρ, fun m ρ _ => Cert.Kernel4Ideal.Gen.frame m ρ, dw_down_ref_frame,
    fun m ρ _ => Cert.Kernel5.Gen.frame m ρ, fun m ρ _ => Cert.Kernel5Ideal.Gen.frame m ρ, in_proj_ref_frame,
    fun m ρ _ => Cert.Kernel6.Gen.frame m ρ, fun m ρ _ => Cert.Kernel6Ideal.Gen.frame m ρ, out_proj_ref_frame,
    ffn_up_frame, ffn_up_frame_ideal, ffn_up_ref_frame,
    adamw_frame, adamw_frame_ideal, adam_ref_frame,
    trivial, in_bwd, trivial, out_bwd, trivial, dw_up, trivial, dw_down, trivial, in_proj, trivial, out_proj, trivial, ffn_up, trivial, adam⟩

end Cert.Proof

end
